-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite_ids_nonneg [hPre_weights_finite_ids_nonneg : Cert.Pre_weights_finite_ids_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite_ids_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite_ids_nonneg [hPre_weights_finite_ids_nonneg : Cert.Pre_weights_finite_ids_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite_ids_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_weights_finite_ids_nonneg [hKernelIdeal : Cert.KernelIdeal.Facts] [hPre_weights_finite_ids_nonneg : Cert.Pre_weights_finite_ids_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite_ids_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_weights_finite_ids_nonneg [hReferenceIdeal : Cert.ReferenceIdeal.Facts] [hPre_weights_finite_ids_nonneg : Cert.Pre_weights_finite_ids_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite_ids_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_weights_finite_ids_nonneg [hKernelIdeal : Cert.KernelIdeal.Facts] [hReferenceIdeal : Cert.ReferenceIdeal.Facts] [hPre_weights_finite_ids_nonneg : Cert.Pre_weights_finite_ids_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite_ids_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_weights_finite_ids_nonneg : Cert.Pre_weights_finite_ids_nonneg.Facts),
    quiescent_Kernel (hKernel := hKernel)
    ∧ quiescent_KernelIdeal (hKernelIdeal := hKernelIdeal)
    ∧ quiescent_KernelIdeal_pre_weights_finite_ids_nonneg (hKernelIdeal := hKernelIdeal) (hPre_weights_finite_ids_nonneg := hPre_weights_finite_ids_nonneg)
    ∧ quiescent_ReferenceIdeal (hReferenceIdeal := hReferenceIdeal)
    ∧ quiescent_ReferenceIdeal_pre_weights_finite_ids_nonneg (hReferenceIdeal := hReferenceIdeal) (hPre_weights_finite_ids_nonneg := hPre_weights_finite_ids_nonneg)
    ∧ preserves_Kernel_KernelIdeal
    ∧ algebraic_KernelIdeal_ReferenceIdeal_pre_weights_finite_ids_nonneg (hKernelIdeal := hKernelIdeal) (hReferenceIdeal := hReferenceIdeal) (hPre_weights_finite_ids_nonneg := hPre_weights_finite_ids_nonneg)
-- ==== Pre_weights_finite_ids_nonneg.lean ====
abbrev S32x2048 : Shape := ⟨2, ![32, 2048]⟩
abbrev S32x2 : Shape := ⟨2, ![32, 2]⟩
abbrev S16x2816x2048 : Shape := ⟨3, ![16, 2816, 2048]⟩
abbrev S16x22x16 : Shape := ⟨3, ![16, 22, 16]⟩
abbrev S16x2048x1408 : Shape := ⟨3, ![16, 2048, 1408]⟩
abbrev S16x16x11 : Shape := ⟨3, ![16, 16, 11]⟩
abbrev S_ : Shape := ⟨0, ![]⟩

class Facts : Prop where
  bcast_S_S32x2 : S_.BroadcastsInDim S32x2 (![] : Fin 0 → Fin S32x2.rank)

variable [Facts]

def fn {F : FTy → Type} [FloatOps F] (main_arg0 : FVec F S32x2048 .f32) (main_arg1 : FVec F S32x2 .f32) (main_arg2 : IVec S32x2 32) (main_arg3 : FVec F S16x2816x2048 .f32) (main_arg4 : FVec F S16x22x16 .f32) (main_arg5 : FVec F S16x2048x1408 .f32) (main_arg6 : FVec F S16x16x11 .f32) : IVec S32x2 1 :=
  let main_cst : FVec F S_ .f32 := constant S_ .f32 0x00000000#32
  let main_v0 : FVec F S32x2 .f32 := broadcastInDim S32x2 ![] bcast_S_S32x2 main_cst
  let main_v1 : IVec S32x2 1 := cmpf .oge main_arg1 main_v0
  let main_cst_0 : FVec F S_ .f32 := constant S_ .f32 0x7F800000#32
  let main_v2 : FVec F S32x2 .f32 := broadcastInDim S32x2 ![] bcast_S_S32x2 main_cst_0
  let main_v3 : IVec S32x2 1 := cmpf .olt main_arg1 main_v2
  let main_v4 : IVec S32x2 1 := andi main_v1 main_v3
  let main_c : IVec S_ 32 := constantI S_ 32 0#32
  let main_v5 : IVec S32x2 32 := broadcastInDim S32x2 ![] bcast_S_S32x2 main_c
  let main_v6 : IVec S32x2 1 := cmpi .sge main_arg2 main_v5
  let main_v7 : IVec S32x2 1 := andi main_v4 main_v6
  main_v7
-- ==== Kernel.lean ====
abbrev S32x2048 : Shape := ⟨2, ![32, 2048]⟩
abbrev S32x2 : Shape := ⟨2, ![32, 2]⟩
abbrev S16x2816x2048 : Shape := ⟨3, ![16, 2816, 2048]⟩
abbrev S16x22x16 : Shape := ⟨3, ![16, 22, 16]⟩
abbrev S16x2048x1408 : Shape := ⟨3, ![16, 2048, 1408]⟩
abbrev S16x16x11 : Shape := ⟨3, ![16, 16, 11]⟩
abbrev S1x1408x1024 : Shape := ⟨3, ![1, 1408, 1024]⟩
abbrev S1x22x16 : Shape := ⟨3, ![1, 22, 16]⟩
abbrev S1x1024x1408 : Shape := ⟨3, ![1, 1024, 1408]⟩
abbrev S1x16x11 : Shape := ⟨3, ![1, 16, 11]⟩
abbrev S32x1408 : Shape := ⟨2, ![32, 1408]⟩
abbrev S32x1024 : Shape := ⟨2, ![32, 1024]⟩
abbrev S1x1x8 : Shape := ⟨3, ![1, 1, 8]⟩
abbrev S8 : Shape := ⟨1, ![8]⟩
abbrev S8x1 : Shape := ⟨2, ![8, 1]⟩
abbrev S8x128 : Shape := ⟨2, ![8, 128]⟩
abbrev S1x1024 : Shape := ⟨2, ![1, 1024]⟩
abbrev S1x128x1024 : Shape := ⟨3, ![1, 128, 1024]⟩
abbrev S128x1024 : Shape := ⟨2, ![128, 1024]⟩
abbrev S32x128 : Shape := ⟨2, ![32, 128]⟩
abbrev S32 : Shape := ⟨1, ![32]⟩
abbrev S32x1 : Shape := ⟨2, ![32, 1]⟩
abbrev S1x1x11 : Shape := ⟨3, ![1, 1, 11]⟩
abbrev S11 : Shape := ⟨1, ![11]⟩
abbrev S11x1 : Shape := ⟨2, ![11, 1]⟩
abbrev S11x128 : Shape := ⟨2, ![11, 128]⟩
abbrev S1x1408 : Shape := ⟨2, ![1, 1408]⟩
abbrev S1x128x1408 : Shape := ⟨3, ![1, 128, 1408]⟩
abbrev S128x1408 : Shape := ⟨2, ![128, 1408]⟩

abbrev nBuf : Space → Nat
  | .hbm => 8
  | .vmem => 14
  | .smem => 0
  | _ => 0

abbrev bufTy : (tb : Table) → Fin (tcTables nBuf tb) → BufTy
  | .hbm, ⟨0, _⟩ => ⟨S32x2048, .f32⟩
  | .hbm, ⟨1, _⟩ => ⟨S32x2, .f32⟩
  | .hbm, ⟨2, _⟩ => ⟨S32x2, .i32⟩
  | .hbm, ⟨3, _⟩ => ⟨S16x2816x2048, .f32⟩
  | .hbm, ⟨4, _⟩ => ⟨S16x22x16, .f32⟩
  | .hbm, ⟨5, _⟩ => ⟨S16x2048x1408, .f32⟩
  | .hbm, ⟨6, _⟩ => ⟨S16x16x11, .f32⟩
  | .hbm, ⟨7, _⟩ => ⟨S32x2048, .f32⟩
  | .local _ .vmem, ⟨0, _⟩ => ⟨S32x2048, .f32⟩
  | .local _ .vmem, ⟨1, _⟩ => ⟨S1x1408x1024, .f32⟩
  | .local _ .vmem, ⟨2, _⟩ => ⟨S1x1408x1024, .f32⟩
  | .local _ .vmem, ⟨3, _⟩ => ⟨S1x22x16, .f32⟩
  | .local _ .vmem, ⟨4, _⟩ => ⟨S1x22x16, .f32⟩
  | .local _ .vmem, ⟨5, _⟩ => ⟨S1x1024x1408, .f32⟩
  | .local _ .vmem, ⟨6, _⟩ => ⟨S1x1024x1408, .f32⟩
  | .local _ .vmem, ⟨7, _⟩ => ⟨S1x16x11, .f32⟩
  | .local _ .vmem, ⟨8, _⟩ => ⟨S1x16x11, .f32⟩
  | .local _ .vmem, ⟨9, _⟩ => ⟨S32x2, .i32⟩
  | .local _ .vmem, ⟨10, _⟩ => ⟨S32x2, .f32⟩
  | .local _ .vmem, ⟨11, _⟩ => ⟨S32x2048, .f32⟩
  | .local _ .vmem, ⟨12, _⟩ => ⟨S32x1408, .f32⟩
  | .local _ .vmem, ⟨13, _⟩ => ⟨S32x1408, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![16, 6], ![false, false]⟩

def k0_cond5 (i : grid0.Coords) : BitVec 1 :=
  let arg1 : BitVec 32 := BitVec.ofNat 32 (i 1).val
  let c4_i32 : BitVec 32 := 4#32
  let v12 : BitVec 1 := Scalar.cmpi .sge arg1 c4_i32
  let v13 : BitVec 32 := Scalar.extui v12
  let c0_i32_4 : BitVec 32 := 0#32
  let v14 : BitVec 1 := Scalar.cmpi .ne v13 c0_i32_4
  v14

def k0_off1 (i : grid0.Coords) (c0_i32_13 : BitVec 32) : Fin 3 → Nat :=
  let c0_14 : Index := 0#32
  let arg1 : BitVec 32 := BitVec.ofNat 32 (i 1).val
  let c4_i32_5 : BitVec 32 := 4#32
  let v15 : BitVec 32 := Scalar.subi arg1 c4_i32_5
  let c8_i32 : BitVec 32 := 8#32
  let v29 : BitVec 32 := Scalar.muli v15 c8_i32
  let v30 : BitVec 32 := Scalar.addi v29 c0_i32_13
  let v31 : Index := Scalar.indexCast v30
  let c0_15 : Index := 0#32
  ![0, v31.toNat, 0]
def k0_cond6 (i : grid0.Coords) : BitVec 1 :=
  let arg0 : BitVec 32 := BitVec.ofNat 32 (i 0).val
  let c0_i32_20 : BitVec 32 := 0#32
  let v42 : BitVec 1 := Scalar.cmpi .eq arg0 c0_i32_20
  let v43 : BitVec 32 := Scalar.extui v42
  let c0_i32_21 : BitVec 32 := 0#32
  let v44 : BitVec 1 := Scalar.cmpi .ne v43 c0_i32_21
  v44

def k0_off2 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32 : BitVec 32 := 1024#32
  let v27 : BitVec 32 := Scalar.muli v15 c1024_i32
  let c0_i32_12 : BitVec 32 := 0#32
  let v28 : BitVec 32 := Scalar.addi v27 c0_i32_12
  let v195 : Index := Scalar.indexCast v28
  ![0, v195.toNat]
def k0_cond7 (i : grid0.Coords) : BitVec 1 :=
  let arg0 : BitVec 32 := BitVec.ofNat 32 (i 0).val
  let c0_i32_22 : BitVec 32 := 0#32
  let v45 : BitVec 1 := Scalar.cmpi .ne arg0 c0_i32_22
  let v46 : BitVec 32 := Scalar.extui v45
  let c0_i32_23 : BitVec 32 := 0#32
  let v47 : BitVec 1 := Scalar.cmpi .ne v46 c0_i32_23
  v47

def k0_off3 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32 : BitVec 32 := 1024#32
  let v27 : BitVec 32 := Scalar.muli v15 c1024_i32
  let c0_i32_12 : BitVec 32 := 0#32
  let v28 : BitVec 32 := Scalar.addi v27 c0_i32_12
  let v195 : Index := Scalar.indexCast v28
  ![0, v195.toNat]
def k0_cond8 (i : grid0.Coords) : BitVec 1 :=
  let arg0 : BitVec 32 := BitVec.ofNat 32 (i 0).val
  let c0_i32_32 : BitVec 32 := 0#32
  let v63 : BitVec 1 := Scalar.cmpi .eq arg0 c0_i32_32
  let v64 : BitVec 32 := Scalar.extui v63
  let c0_i32_33 : BitVec 32 := 0#32
  let v65 : BitVec 1 := Scalar.cmpi .ne v64 c0_i32_33
  v65

def k0_off4 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_24 : BitVec 32 := 1024#32
  let v48 : BitVec 32 := Scalar.muli v15 c1024_i32_24
  let c128_i32 : BitVec 32 := 128#32
  let v49 : BitVec 32 := Scalar.addi v48 c128_i32
  let v195 : Index := Scalar.indexCast v49
  ![0, v195.toNat]
def k0_cond9 (i : grid0.Coords) : BitVec 1 :=
  let arg0 : BitVec 32 := BitVec.ofNat 32 (i 0).val
  let c0_i32_34 : BitVec 32 := 0#32
  let v66 : BitVec 1 := Scalar.cmpi .ne arg0 c0_i32_34
  let v67 : BitVec 32 := Scalar.extui v66
  let c0_i32_35 : BitVec 32 := 0#32
  let v68 : BitVec 1 := Scalar.cmpi .ne v67 c0_i32_35
  v68

def k0_off5 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_24 : BitVec 32 := 1024#32
  let v48 : BitVec 32 := Scalar.muli v15 c1024_i32_24
  let c128_i32 : BitVec 32 := 128#32
  let v49 : BitVec 32 := Scalar.addi v48 c128_i32
  let v195 : Index := Scalar.indexCast v49
  ![0, v195.toNat]
def k0_cond10 (i : grid0.Coords) : BitVec 1 :=
  let arg0 : BitVec 32 := BitVec.ofNat 32 (i 0).val
  let c0_i32_44 : BitVec 32 := 0#32
  let v84 : BitVec 1 := Scalar.cmpi .eq arg0 c0_i32_44
  let v85 : BitVec 32 := Scalar.extui v84
  let c0_i32_45 : BitVec 32 := 0#32
  let v86 : BitVec 1 := Scalar.cmpi .ne v85 c0_i32_45
  v86

def k0_off6 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_36 : BitVec 32 := 1024#32
  let v69 : BitVec 32 := Scalar.muli v15 c1024_i32_36
  let c256_i32 : BitVec 32 := 256#32
  let v70 : BitVec 32 := Scalar.addi v69 c256_i32
  let v195 : Index := Scalar.indexCast v70
  ![0, v195.toNat]
def k0_cond11 (i : grid0.Coords) : BitVec 1 :=
  let arg0 : BitVec 32 := BitVec.ofNat 32 (i 0).val
  let c0_i32_46 : BitVec 32 := 0#32
  let v87 : BitVec 1 := Scalar.cmpi .ne arg0 c0_i32_46
  let v88 : BitVec 32 := Scalar.extui v87
  let c0_i32_47 : BitVec 32 := 0#32
  let v89 : BitVec 1 := Scalar.cmpi .ne v88 c0_i32_47
  v89

def k0_off7 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_36 : BitVec 32 := 1024#32
  let v69 : BitVec 32 := Scalar.muli v15 c1024_i32_36
  let c256_i32 : BitVec 32 := 256#32
  let v70 : BitVec 32 := Scalar.addi v69 c256_i32
  let v195 : Index := Scalar.indexCast v70
  ![0, v195.toNat]
def k0_cond12 (i : grid0.Coords) : BitVec 1 :=
  let arg0 : BitVec 32 := BitVec.ofNat 32 (i 0).val
  let c0_i32_56 : BitVec 32 := 0#32
  let v105 : BitVec 1 := Scalar.cmpi .eq arg0 c0_i32_56
  let v106 : BitVec 32 := Scalar.extui v105
  let c0_i32_57 : BitVec 32 := 0#32
  let v107 : BitVec 1 := Scalar.cmpi .ne v106 c0_i32_57
  v107

def k0_off8 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_48 : BitVec 32 := 1024#32
  let v90 : BitVec 32 := Scalar.muli v15 c1024_i32_48
  let c384_i32 : BitVec 32 := 384#32
  let v91 : BitVec 32 := Scalar.addi v90 c384_i32
  let v195 : Index := Scalar.indexCast v91
  ![0, v195.toNat]
def k0_cond13 (i : grid0.Coords) : BitVec 1 :=
  let arg0 : BitVec 32 := BitVec.ofNat 32 (i 0).val
  let c0_i32_58 : BitVec 32 := 0#32
  let v108 : BitVec 1 := Scalar.cmpi .ne arg0 c0_i32_58
  let v109 : BitVec 32 := Scalar.extui v108
  let c0_i32_59 : BitVec 32 := 0#32
  let v110 : BitVec 1 := Scalar.cmpi .ne v109 c0_i32_59
  v110

def k0_off9 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_48 : BitVec 32 := 1024#32
  let v90 : BitVec 32 := Scalar.muli v15 c1024_i32_48
  let c384_i32 : BitVec 32 := 384#32
  let v91 : BitVec 32 := Scalar.addi v90 c384_i32
  let v195 : Index := Scalar.indexCast v91
  ![0, v195.toNat]
def k0_cond14 (i : grid0.Coords) : BitVec 1 :=
  let arg0 : BitVec 32 := BitVec.ofNat 32 (i 0).val
  let c0_i32_68 : BitVec 32 := 0#32
  let v126 : BitVec 1 := Scalar.cmpi .eq arg0 c0_i32_68
  let v127 : BitVec 32 := Scalar.extui v126
  let c0_i32_69 : BitVec 32 := 0#32
  let v128 : BitVec 1 := Scalar.cmpi .ne v127 c0_i32_69
  v128

def k0_off10 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_60 : BitVec 32 := 1024#32
  let v111 : BitVec 32 := Scalar.muli v15 c1024_i32_60
  let c512_i32 : BitVec 32 := 512#32
  let v112 : BitVec 32 := Scalar.addi v111 c512_i32
  let v195 : Index := Scalar.indexCast v112
  ![0, v195.toNat]
def k0_cond15 (i : grid0.Coords) : BitVec 1 :=
  let arg0 : BitVec 32 := BitVec.ofNat 32 (i 0).val
  let c0_i32_70 : BitVec 32 := 0#32
  let v129 : BitVec 1 := Scalar.cmpi .ne arg0 c0_i32_70
  let v130 : BitVec 32 := Scalar.extui v129
  let c0_i32_71 : BitVec 32 := 0#32
  let v131 : BitVec 1 := Scalar.cmpi .ne v130 c0_i32_71
  v131

def k0_off11 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_60 : BitVec 32 := 1024#32
  let v111 : BitVec 32 := Scalar.muli v15 c1024_i32_60
  let c512_i32 : BitVec 32 := 512#32
  let v112 : BitVec 32 := Scalar.addi v111 c512_i32
  let v195 : Index := Scalar.indexCast v112
  ![0, v195.toNat]
def k0_cond16 (i : grid0.Coords) : BitVec 1 :=
  let arg0 : BitVec 32 := BitVec.ofNat 32 (i 0).val
  let c0_i32_79 : BitVec 32 := 0#32
  let v147 : BitVec 1 := Scalar.cmpi .eq arg0 c0_i32_79
  let v148 : BitVec 32 := Scalar.extui v147
  let c0_i32_80 : BitVec 32 := 0#32
  let v149 : BitVec 1 := Scalar.cmpi .ne v148 c0_i32_80
  v149

def k0_off12 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_72 : BitVec 32 := 1024#32
  let v132 : BitVec 32 := Scalar.muli v15 c1024_i32_72
  let c640_i32 : BitVec 32 := 640#32
  let v133 : BitVec 32 := Scalar.addi v132 c640_i32
  let v195 : Index := Scalar.indexCast v133
  ![0, v195.toNat]
def k0_cond17 (i : grid0.Coords) : BitVec 1 :=
  let arg0 : BitVec 32 := BitVec.ofNat 32 (i 0).val
  let c0_i32_81 : BitVec 32 := 0#32
  let v150 : BitVec 1 := Scalar.cmpi .ne arg0 c0_i32_81
  let v151 : BitVec 32 := Scalar.extui v150
  let c0_i32_82 : BitVec 32 := 0#32
  let v152 : BitVec 1 := Scalar.cmpi .ne v151 c0_i32_82
  v152

def k0_off13 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_72 : BitVec 32 := 1024#32
  let v132 : BitVec 32 := Scalar.muli v15 c1024_i32_72
  let c640_i32 : BitVec 32 := 640#32
  let v133 : BitVec 32 := Scalar.addi v132 c640_i32
  let v195 : Index := Scalar.indexCast v133
  ![0, v195.toNat]
def k0_cond18 (i : grid0.Coords) : BitVec 1 :=
  let arg0 : BitVec 32 := BitVec.ofNat 32 (i 0).val
  let c0_i32_90 : BitVec 32 := 0#32
  let v168 : BitVec 1 := Scalar.cmpi .eq arg0 c0_i32_90
  let v169 : BitVec 32 := Scalar.extui v168
  let c0_i32_91 : BitVec 32 := 0#32
  let v170 : BitVec 1 := Scalar.cmpi .ne v169 c0_i32_91
  v170

def k0_off14 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_83 : BitVec 32 := 1024#32
  let v153 : BitVec 32 := Scalar.muli v15 c1024_i32_83
  let c768_i32 : BitVec 32 := 768#32
  let v154 : BitVec 32 := Scalar.addi v153 c768_i32
  let v195 : Index := Scalar.indexCast v154
  ![0, v195.toNat]
def k0_cond19 (i : grid0.Coords) : BitVec 1 :=
  let arg0 : BitVec 32 := BitVec.ofNat 32 (i 0).val
  let c0_i32_92 : BitVec 32 := 0#32
  let v171 : BitVec 1 := Scalar.cmpi .ne arg0 c0_i32_92
  let v172 : BitVec 32 := Scalar.extui v171
  let c0_i32_93 : BitVec 32 := 0#32
  let v173 : BitVec 1 := Scalar.cmpi .ne v172 c0_i32_93
  v173

def k0_off15 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_83 : BitVec 32 := 1024#32
  let v153 : BitVec 32 := Scalar.muli v15 c1024_i32_83
  let c768_i32 : BitVec 32 := 768#32
  let v154 : BitVec 32 := Scalar.addi v153 c768_i32
  let v195 : Index := Scalar.indexCast v154
  ![0, v195.toNat]
def k0_cond20 (i : grid0.Coords) : BitVec 1 :=
  let arg0 : BitVec 32 := BitVec.ofNat 32 (i 0).val
  let c0_i32_101 : BitVec 32 := 0#32
  let v189 : BitVec 1 := Scalar.cmpi .eq arg0 c0_i32_101
  let v190 : BitVec 32 := Scalar.extui v189
  let c0_i32_102 : BitVec 32 := 0#32
  let v191 : BitVec 1 := Scalar.cmpi .ne v190 c0_i32_102
  v191

def k0_off16 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_94 : BitVec 32 := 1024#32
  let v174 : BitVec 32 := Scalar.muli v15 c1024_i32_94
  let c896_i32 : BitVec 32 := 896#32
  let v175 : BitVec 32 := Scalar.addi v174 c896_i32
  let v195 : Index := Scalar.indexCast v175
  ![0, v195.toNat]
def k0_cond21 (i : grid0.Coords) : BitVec 1 :=
  let arg0 : BitVec 32 := BitVec.ofNat 32 (i 0).val
  let c0_i32_103 : BitVec 32 := 0#32
  let v192 : BitVec 1 := Scalar.cmpi .ne arg0 c0_i32_103
  let v193 : BitVec 32 := Scalar.extui v192
  let c0_i32_104 : BitVec 32 := 0#32
  let v194 : BitVec 1 := Scalar.cmpi .ne v193 c0_i32_104
  v194

def k0_off17 (i : grid0.Coords) : Fin 2 → Nat :=
  let c0_105 : Index := 0#32
  let arg1 : BitVec 32 := BitVec.ofNat 32 (i 1).val
  let c4_i32_5 : BitVec 32 := 4#32
  let v15 : BitVec 32 := Scalar.subi arg1 c4_i32_5
  let c1024_i32_94 : BitVec 32 := 1024#32
  let v174 : BitVec 32 := Scalar.muli v15 c1024_i32_94
  let c896_i32 : BitVec 32 := 896#32
  let v175 : BitVec 32 := Scalar.addi v174 c896_i32
  let v195 : Index := Scalar.indexCast v175
  ![0, v195.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![arg0.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x22x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x11 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S32x2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S32x2048 : Shape := ⟨2, ![32, 2048]⟩
abbrev S32x2 : Shape := ⟨2, ![32, 2]⟩
abbrev S16x2816x2048 : Shape := ⟨3, ![16, 2816, 2048]⟩
abbrev S16x22x16 : Shape := ⟨3, ![16, 22, 16]⟩
abbrev S16x2048x1408 : Shape := ⟨3, ![16, 2048, 1408]⟩
abbrev S16x16x11 : Shape := ⟨3, ![16, 16, 11]⟩
abbrev S16x22x128x16 : Shape := ⟨4, ![16, 22, 128, 16]⟩
abbrev S16x2816x16 : Shape := ⟨3, ![16, 2816, 16]⟩
abbrev S16x2816x16x128 : Shape := ⟨4, ![16, 2816, 16, 128]⟩
abbrev S16x16x128x11 : Shape := ⟨4, ![16, 16, 128, 11]⟩
abbrev S16x2048x11 : Shape := ⟨3, ![16, 2048, 11]⟩
abbrev S16x2048x11x128 : Shape := ⟨4, ![16, 2048, 11, 128]⟩
abbrev S16x2816x32 : Shape := ⟨3, ![16, 2816, 32]⟩
abbrev S16x32x2816 : Shape := ⟨3, ![16, 32, 2816]⟩
abbrev S16x32x1408 : Shape := ⟨3, ![16, 32, 1408]⟩
abbrev S_ : Shape := ⟨0, ![]⟩
abbrev S16x32x2048 : Shape := ⟨3, ![16, 32, 2048]⟩
abbrev S32x16 : Shape := ⟨2, ![32, 16]⟩
abbrev S32 : Shape := ⟨1, ![32]⟩
abbrev S32x1 : Shape := ⟨2, ![32, 1]⟩
abbrev S32x2x1 : Shape := ⟨3, ![32, 2, 1]⟩
abbrev S32x2x2 : Shape := ⟨3, ![32, 2, 2]⟩

abbrev nBuf : Space → Nat
  | .hbm => 56
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2, .f32⟩
  | .hbm, ⟨2, _⟩ => ⟨S32x2, .i32⟩
  | .hbm, ⟨3, _⟩ => ⟨S16x2816x2048, .f32⟩
  | .hbm, ⟨4, _⟩ => ⟨S16x22x16, .f32⟩
  | .hbm, ⟨5, _⟩ => ⟨S16x2048x1408, .f32⟩
  | .hbm, ⟨6, _⟩ => ⟨S16x16x11, .f32⟩
  | .hbm, ⟨7, _⟩ => ⟨S16x22x128x16, .f32⟩
  | .hbm, ⟨8, _⟩ => ⟨S16x2816x16, .f32⟩
  | .hbm, ⟨9, _⟩ => ⟨S16x2816x16x128, .f32⟩
  | .hbm, ⟨10, _⟩ => ⟨S16x2816x2048, .f32⟩
  | .hbm, ⟨11, _⟩ => ⟨S16x2816x2048, .f32⟩
  | .hbm, ⟨12, _⟩ => ⟨S16x16x128x11, .f32⟩
  | .hbm, ⟨13, _⟩ => ⟨S16x2048x11, .f32⟩
  | .hbm, ⟨14, _⟩ => ⟨S16x2048x11x128, .f32⟩
  | .hbm, ⟨15, _⟩ => ⟨S16x2048x1408, .f32⟩
  | .hbm, ⟨16, _⟩ => ⟨S16x2048x1408, .f32⟩
  | .hbm, ⟨17, _⟩ => ⟨S16x2816x32, .f32⟩
  | .hbm, ⟨18, _⟩ => ⟨S16x32x2816, .f32⟩
  | .hbm, ⟨19, _⟩ => ⟨S16x32x1408, .f32⟩
  | .hbm, ⟨20, _⟩ => ⟨S16x32x1408, .f32⟩
  | .hbm, ⟨21, _⟩ => ⟨S16x32x1408, .f32⟩
  | .hbm, ⟨22, _⟩ => ⟨S16x32x1408, .f32⟩
  | .hbm, ⟨23, _⟩ => ⟨S_, .f32⟩
  | .hbm, ⟨24, _⟩ => ⟨S16x32x1408, .f32⟩
  | .hbm, ⟨25, _⟩ => ⟨S16x32x1408, .f32⟩
  | .hbm, ⟨26, _⟩ => ⟨S_, .f32⟩
  | .hbm, ⟨27, _⟩ => ⟨S16x32x1408, .f32⟩
  | .hbm, ⟨28, _⟩ => ⟨S16x32x1408, .f32⟩
  | .hbm, ⟨29, _⟩ => ⟨S16x32x1408, .f32⟩
  | .hbm, ⟨30, _⟩ => ⟨S16x32x1408, .f32⟩
  | .hbm, ⟨31, _⟩ => ⟨S16x32x2048, .f32⟩
  | .hbm, ⟨32, _⟩ => ⟨S_, .f32⟩
  | .hbm, ⟨33, _⟩ => ⟨S32x16, .f32⟩
  | .hbm, ⟨34, _⟩ => ⟨S32, .i32⟩
  | .hbm, ⟨35, _⟩ => ⟨S32x1, .i32⟩
  | .hbm, ⟨36, _⟩ => ⟨S_, .i32⟩
  | .hbm, ⟨37, _⟩ => ⟨S32x1, .i32⟩
  | .hbm, ⟨38, _⟩ => ⟨S32x1, .i1⟩
  | .hbm, ⟨39, _⟩ => ⟨S_, .i32⟩
  | .hbm, ⟨40, _⟩ => ⟨S32x1, .i32⟩
  | .hbm, ⟨41, _⟩ => ⟨S32x1, .i32⟩
  | .hbm, ⟨42, _⟩ => ⟨S32x1, .i32⟩
  | .hbm, ⟨43, _⟩ => ⟨S_, .i32⟩
  | .hbm, ⟨44, _⟩ => ⟨S32x2, .i32⟩
  | .hbm, ⟨45, _⟩ => ⟨S32x2, .i1⟩
  | .hbm, ⟨46, _⟩ => ⟨S_, .i32⟩
  | .hbm, ⟨47, _⟩ => ⟨S32x2, .i32⟩
  | .hbm, ⟨48, _⟩ => ⟨S32x2, .i32⟩
  | .hbm, ⟨49, _⟩ => ⟨S32x2, .i32⟩
  | .hbm, ⟨50, _⟩ => ⟨S32x2, .i32⟩
  | .hbm, ⟨51, _⟩ => ⟨S32x2x1, .i32⟩
  | .hbm, ⟨52, _⟩ => ⟨S32x2x1, .i32⟩
  | .hbm, ⟨53, _⟩ => ⟨S32x2x2, .i32⟩
  | .hbm, ⟨54, _⟩ => ⟨S32x16, .f32⟩
  | .hbm, ⟨55, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proof.Root.lean ====
/-
  The fused kernel's body as a chain of its five phases, each under its test of the second grid coordinate, so that at a point
  of one phase the body is that phase's statements alone.
-/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The word the body tests to enter phase `n`: 1 when the second grid coordinate is `n`. -/
abbrev phase (i : grid0.Coords) (n : BitVec 32) : BitVec 1 :=
  Scalar.cmpi .ne (Scalar.extui (Scalar.cmpi .eq (BitVec.ofNat 32 (i 1).val) n)) 0#32

/-- The statements of phase 0 (gate, first half), then `k`. -/
def seg0 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (k : Prog (TpuEff nD τ sig (Elt F) Λ₀ .tc) PUnit) : Prog (TpuEff nD τ sig (Elt F) Λ₀ .tc) PUnit := do
  let ⟨v15, v48⟩ : Σ' (v15 : Vec F S32x1024 .f32), FVec F S32x1024 .f32 ← k0_part1 i arg2 harg2 arg3 harg3 arg4 harg4 arg5 harg5 arg6 harg6 arg7 harg7 arg8 harg8 arg9 harg9 arg10 harg10 arg11 harg11
  k0_part2 i arg2 harg2 arg3 harg3 arg4 harg4 arg5 harg5 arg6 harg6 arg7 harg7 arg8 harg8 arg9 harg9 arg10 harg10 arg11 harg11 v15 v48
  let ⟨v113, v115, cst_60⟩ : Σ' (v113 : FVec F S32x1024 .f32) (v115 : FVec F S128x1024 .f32), FVec F S32x128 .f32 ← k0_part3 i arg2 harg2 arg3 harg3 arg4 harg4 arg5 harg5 arg6 harg6 arg7 harg7 arg8 harg8 arg9 harg9 arg10 harg10 arg11 harg11 v15
  let v149 : FVec F S8x128 .f32 ← k0_part4 i arg2 harg2 arg3 harg3 arg4 harg4 arg5 harg5 arg6 harg6 arg7 harg7 arg8 harg8 arg9 harg9 arg10 harg10 arg11 harg11 v15 v113 v115 cst_60
  let v153 : Vec F S1x128x1024 .f32 ← Prog.lift (.load arg3 (Rect.unit (s := S1x1408x1024) ![0, 1280, 0] S1x128x1024.size inb_S1x1408x1024_S1x128x1024_0_1280_0).toLoadRect (View.loadsAt_vmem h_S1x128x1024))
  let v156 : Vec F S32x128 .f32 ← Prog.lift (.load arg10 (Rect.unit (s := S32x1408) ![0, 1280] S32x128.size inb_S32x1408_S32x128_0_1280).toLoadRect (View.loadsAt_vmem h_S32x128))
  Prog.lift (.store arg10 (Rect.unit (s := S32x1408) ![0, 1280] S32x128.size inb_S32x1408_S32x128_0_1280) (k0_pay1 v15 v149 v153) Finset.univ (View.stores_vmem_bits_univ h_S32x128 rfl) (.inl rfl))
  k

/-- The statements of phase 1 (gate, second half), then `k`. -/
def seg1 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (k : Prog (TpuEff nD τ sig (Elt F) Λ₀ .tc) PUnit) : Prog (TpuEff nD τ sig (Elt F) Λ₀ .tc) PUnit := do
  let v15 : Vec F S32x1024 .f32 ← k0_part5 i arg2 harg2 arg3 harg3 arg4 harg4 arg5 harg5 arg6 harg6 arg7 harg7 arg8 harg8 arg9 harg9 arg10 harg10 arg11 harg11
  let v81 : FVec F S32x1024 .f32 ← k0_part6 i arg2 harg2 arg3 harg3 arg4 harg4 arg5 harg5 arg6 harg6 arg7 harg7 arg8 harg8 arg9 harg9 arg10 harg10 arg11 harg11 v15
  let ⟨v112, v114⟩ : Σ' (v112 : FVec F S32x1024 .f32), FVec F S128x1024 .f32 ← k0_part7 i arg2 harg2 arg3 harg3 arg4 harg4 arg5 harg5 arg6 harg6 arg7 harg7 arg8 harg8 arg9 harg9 arg10 harg10 arg11 harg11 v15 v81
  let v147 : FVec F S32x128 .f32 ← k0_part8 i arg2 harg2 arg3 harg3 arg4 harg4 arg5 harg5 arg6 harg6 arg7 harg7 arg8 harg8 arg9 harg9 arg10 harg10 arg11 harg11 v15 v112 v114
  k0_part9 i arg2 harg2 arg3 harg3 arg4 harg4 arg5 harg5 arg6 harg6 arg7 harg7 arg8 harg8 arg9 harg9 arg10 harg10 arg11 harg11 v15 v147
  k

/-- The statements of phase 2 (up, first half), then `k`. -/
def seg2 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (k : Prog (TpuEff nD τ sig (Elt F) Λ₀ .tc) PUnit) : Prog (TpuEff nD τ sig (Elt F) Λ₀ .tc) PUnit := do
  let ⟨v15, v48⟩ : Σ' (v15 : Vec F S32x1024 .f32), FVec F S32x1024 .f32 ← k0_part10 i arg2 harg2 arg3 harg3 arg4 harg4 arg5 harg5 arg6 harg6 arg7 harg7 arg8 harg8 arg9 harg9 arg10 harg10 arg11 harg11
  k0_part11 i arg2 harg2 arg3 harg3 arg4 harg4 arg5 harg5 arg6 harg6 arg7 harg7 arg8 harg8 arg9 harg9 arg10 harg10 arg11 harg11 v15 v48
  let ⟨v113, v115, cst_59⟩ : Σ' (v113 : FVec F S32x1024 .f32) (v115 : FVec F S128x1024 .f32), FVec F S32x128 .f32 ← k0_part12 i arg2 harg2 arg3 harg3 arg4 harg4 arg5 harg5 arg6 harg6 arg7 harg7 arg8 harg8 arg9 harg9 arg10 harg10 arg11 harg11 v15
  let v149 : FVec F S8x128 .f32 ← k0_part13 i arg2 harg2 arg3 harg3 arg4 harg4 arg5 harg5 arg6 harg6 arg7 harg7 arg8 harg8 arg9 harg9 arg10 harg10 arg11 harg11 v15 v113 v115 cst_59
  let v153 : Vec F S1x128x1024 .f32 ← Prog.lift (.load arg3 (Rect.unit (s := S1x1408x1024) ![0, 1280, 0] S1x128x1024.size inb_S1x1408x1024_S1x128x1024_0_1280_0).toLoadRect (View.loadsAt_vmem h_S1x128x1024))
  let v156 : Vec F S32x128 .f32 ← Prog.lift (.load arg11 (Rect.unit (s := S32x1408) ![0, 1280] S32x128.size inb_S32x1408_S32x128_0_1280).toLoadRect (View.loadsAt_vmem h_S32x128))
  Prog.lift (.store arg11 (Rect.unit (s := S32x1408) ![0, 1280] S32x128.size inb_S32x1408_S32x128_0_1280) (k0_pay2 v15 v149 v153) Finset.univ (View.stores_vmem_bits_univ h_S32x128 rfl) (.inl rfl))
  k

/-- The statements of phase 3 (up, second half), then `k`. -/
def seg3 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (k : Prog (TpuEff nD τ sig (Elt F) Λ₀ .tc) PUnit) : Prog (TpuEff nD τ sig (Elt F) Λ₀ .tc) PUnit := do
  let ⟨v15, v46, v47⟩ : Σ' (v15 : Vec F S32x1024 .f32) (v46 : FVec F S32x128 .f32), Vec F S32x128 .f32 ← k0_part14 i arg2 harg2 arg3 harg3 arg4 harg4 arg5 harg5 arg6 harg6 arg7 harg7 arg8 harg8 arg9 harg9 arg10 harg10 arg11 harg11
  let ⟨v78, v80, v82⟩ : Σ' (v78 : Vec F S32x128 .f32) (v80 : FVec F S32x1024 .f32), FVec F S128x1024 .f32 ← k0_part15 i arg2 harg2 arg3 harg3 arg4 harg4 arg5 harg5 arg6 harg6 arg7 harg7 arg8 harg8 arg9 harg9 arg10 harg10 arg11 harg11 v15 v46 v47
  let ⟨v116, v117⟩ : Σ' (v116 : Vec F S32x128 .f32), FVec F S32x1024 .f32 ← k0_part16 i arg2 harg2 arg3 harg3 arg4 harg4 arg5 harg5 arg6 harg6 arg7 harg7 arg8 harg8 arg9 harg9 arg10 harg10 arg11 harg11 v15 v78 v80 v82
  let v151 : FVec F S8x1 .f32 ← k0_part17 i arg2 harg2 arg3 harg3 arg4 harg4 arg5 harg5 arg6 harg6 arg7 harg7 arg8 harg8 arg9 harg9 arg10 harg10 arg11 harg11 v15 v116 v117
  k0_part18 i arg2 harg2 arg3 harg3 arg4 harg4 arg5 harg5 arg6 harg6 arg7 harg7 arg8 harg8 arg9 harg9 arg10 harg10 arg11 harg11 v15 v151
  let v221 : FVec F S32x128 .f32 ← k0_part19 i arg2 harg2 arg3 harg3 arg4 harg4 arg5 harg5 arg6 harg6 arg7 harg7 arg8 harg8 arg9 harg9 arg10 harg10 arg11 harg11 v15
  let v222 : Vec F S32x128 .f32 ← Prog.lift (.load arg11 (Rect.unit (s := S32x1408) ![0, 1280] S32x128.size inb_S32x1408_S32x128_0_1280).toLoadRect (View.loadsAt_vmem h_S32x128))
  Prog.lift (.store arg11 (Rect.unit (s := S32x1408) ![0, 1280] S32x128.size inb_S32x1408_S32x128_0_1280) (k0_pay3 v221) Finset.univ (View.stores_vmem_bits_univ h_S32x128 rfl) (.inl rfl))
  k

/-- The statements of phases 4 and 5 (the down projection of one half of the columns). -/
def seg4 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (k0_h5 : k0_cond5 i = 1#1) : Prog (TpuEff nD τ sig (Elt F) Λ₀ .tc) PUnit := do
  let arg0 : BitVec 32 := BitVec.ofNat 32 (i 0).val
  let arg1 : BitVec 32 := BitVec.ofNat 32 (i 1).val
  let ⟨v15, v26, v48⟩ : Σ' (v15 : BitVec 32) (v26 : FVec F S32x1408 .f32), BitVec 32 ← k0_part20 i arg2 harg2 arg3 harg3 arg4 harg4 arg5 harg5 arg6 harg6 arg7 harg7 arg8 harg8 arg9 harg9 arg10 harg10 arg11 harg11 arg0 arg1 k0_h5
  let ⟨v70, v83⟩ : Σ' (v70 : BitVec 32), FVec F S32x128 .f32 ← k0_part21 i arg2 harg2 arg3 harg3 arg4 harg4 arg5 harg5 arg6 harg6 arg7 harg7 arg8 harg8 arg9 harg9 arg10 harg10 arg11 harg11 arg0 k0_h5 v15 v26 v48
  let v112 : BitVec 32 ← k0_part22 i arg2 harg2 arg3 harg3 arg4 harg4 arg5 harg5 arg6 harg6 arg7 harg7 arg8 harg8 arg9 harg9 arg10 harg10 arg11 harg11 arg0 k0_h5 v15 v26 v70 v83
  let ⟨v133, v146, v151⟩ : Σ' (v133 : BitVec 32) (v146 : FVec F S32x128 .f32), BitVec 32 ← k0_part23 i arg2 harg2 arg3 harg3 arg4 harg4 arg5 harg5 arg6 harg6 arg7 harg7 arg8 harg8 arg9 harg9 arg10 harg10 arg11 harg11 arg0 k0_h5 v15 v26 v112
  let ⟨v175, v185⟩ : Σ' (v175 : BitVec 32), FVec F S32x1408 .f32 ← k0_part24 i arg2 harg2 arg3 harg3 arg4 harg4 arg5 harg5 arg6 harg6 arg7 harg7 arg8 harg8 arg9 harg9 arg10 harg10 arg11 harg11 arg0 k0_h5 v15 v26 v133 v146 v151
  let v186 : Vec F S1x128x1408 .f32 ← Prog.lift (.load arg5 (Rect.unit (s := S1x1024x1408) ![0, 896, 0] S1x128x1408.size inb_S1x1024x1408_S1x128x1408_0_896_0).toLoadRect (View.loadsAt_vmem h_S1x128x1408))
  if k0_h20 : k0_cond20 i = 1#1 then do
    let v196 : Vec F S32x128 .f32 ← Prog.lift (.load arg9 (Rect.unit (s := S32x2048) (k0_off16 i) S32x128.size (k0_off16_inb i k0_h5 k0_h20)).toLoadRect (View.loadsAt_vmem h_S32x128))
    Prog.lift (.store arg9 (Rect.unit (s := S32x2048) (k0_off16 i) S32x128.size (k0_off16_inb i k0_h5 k0_h20)) (k0_pay4 v185 v186) Finset.univ (View.stores_vmem_bits_univ h_S32x128 rfl) (.inl rfl))
    pure ⟨⟩
  else do
    pure ⟨⟩
  if k0_h21 : k0_cond21 i = 1#1 then do
    let v196 : Vec F S32x128 .f32 ← Prog.lift (.load arg9 (Rect.unit (s := S32x2048) (k0_off17 i) S32x128.size (k0_off17_inb i k0_h5 k0_h21)).toLoadRect (View.loadsAt_vmem h_S32x128))
    let v200 : Vec F S32x128 .f32 ← Prog.lift (.load arg9 (Rect.unit (s := S32x2048) (k0_off17 i) S32x128.size (k0_off17_inb i k0_h5 k0_h21)).toLoadRect (View.loadsAt_vmem h_S32x128))
    Prog.lift (.store arg9 (Rect.unit (s := S32x2048) (k0_off17 i) S32x128.size (k0_off17_inb i k0_h5 k0_h21)) (k0_pay5 v185 v186 v196) Finset.univ (View.stores_vmem_bits_univ h_S32x128 rfl) (.inl rfl))
    pure ⟨⟩
  else do
    pure ⟨⟩
  pure ⟨⟩

/-- The body from the test of phases 4 and 5 on. -/
def tail4 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole) : Prog (TpuEff nD τ sig (Elt F) Λ₀ .tc) PUnit :=
  if h : k0_cond5 i = 1#1 then seg4 i arg2 harg2 arg3 harg3 arg4 harg4 arg5 harg5 arg6 harg6 arg7 harg7 arg8 harg8 arg9 harg9 arg10 harg10 arg11 harg11 h else pure ⟨⟩

/-- The body from the test of phase 3 on. -/
def tail3 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole) : Prog (TpuEff nD τ sig (Elt F) Λ₀ .tc) PUnit :=
  if h : phase i 3#32 = 1#1 then seg3 i arg2 harg2 arg3 harg3 arg4 harg4 arg5 harg5 arg6 harg6 arg7 harg7 arg8 harg8 arg9 harg9 arg10 harg10 arg11 harg11 (tail4 i arg2 harg2 arg3 harg3 arg4 harg4 arg5 harg5 arg6 harg6 arg7 harg7 arg8 harg8 arg9 harg9 arg10 harg10 arg11 harg11) else tail4 i arg2 harg2 arg3 harg3 arg4 harg4 arg5 harg5 arg6 harg6 arg7 harg7 arg8 harg8 arg9 harg9 arg10 harg10 arg11 harg11

/-- The body from the test of phase 2 on. -/
def tail2 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole) : Prog (TpuEff nD τ sig (Elt F) Λ₀ .tc) PUnit :=
  if h : phase i 2#32 = 1#1 then seg2 i arg2 harg2 arg3 harg3 arg4 harg4 arg5 harg5 arg6 harg6 arg7 harg7 arg8 harg8 arg9 harg9 arg10 harg10 arg11 harg11 (tail3 i arg2 harg2 arg3 harg3 arg4 harg4 arg5 harg5 arg6 harg6 arg7 harg7 arg8 harg8 arg9 harg9 arg10 harg10 arg11 harg11) else tail3 i arg2 harg2 arg3 harg3 arg4 harg4 arg5 harg5 arg6 harg6 arg7 harg7 arg8 harg8 arg9 harg9 arg10 harg10 arg11 harg11

/-- The body from the test of phase 1 on. -/
def tail1 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole) : Prog (TpuEff nD τ sig (Elt F) Λ₀ .tc) PUnit :=
  if h : phase i 1#32 = 1#1 then seg1 i arg2 harg2 arg3 harg3 arg4 harg4 arg5 harg5 arg6 harg6 arg7 harg7 arg8 harg8 arg9 harg9 arg10 harg10 arg11 harg11 (tail2 i arg2 harg2 arg3 harg3 arg4 harg4 arg5 harg5 arg6 harg6 arg7 harg7 arg8 harg8 arg9 harg9 arg10 harg10 arg11 harg11) else tail2 i arg2 harg2 arg3 harg3 arg4 harg4 arg5 harg5 arg6 harg6 arg7 harg7 arg8 harg8 arg9 harg9 arg10 harg10 arg11 harg11

/-- The body from the test of phase 0 on. -/
def tail0 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole) : Prog (TpuEff nD τ sig (Elt F) Λ₀ .tc) PUnit :=
  if h : phase i 0#32 = 1#1 then seg0 i arg2 harg2 arg3 harg3 arg4 harg4 arg5 harg5 arg6 harg6 arg7 harg7 arg8 harg8 arg9 harg9 arg10 harg10 arg11 harg11 (tail1 i arg2 harg2 arg3 harg3 arg4 harg4 arg5 harg5 arg6 harg6 arg7 harg7 arg8 harg8 arg9 harg9 arg10 harg10 arg11 harg11) else tail1 i arg2 harg2 arg3 harg3 arg4 harg4 arg5 harg5 arg6 harg6 arg7 harg7 arg8 harg8 arg9 harg9 arg10 harg10 arg11 harg11

/-- The body is the chain of its phases: by definitional unfolding. -/
theorem fused_eq_tail0 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole) :
    cc0__fused (F := F) i arg2 harg2 arg3 harg3 arg4 harg4 arg5 harg5 arg6 harg6 arg7 harg7 arg8 harg8 arg9 harg9 arg10 harg10 arg11 harg11 = tail0 i arg2 harg2 arg3 harg3 arg4 harg4 arg5 harg5 arg6 harg6 arg7 harg7 arg8 harg8 arg9 harg9 arg10 harg10 arg11 harg11 := rfl

/-- At a point of phase 0 the body is that phase's statements. -/
theorem fused_phase0 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (h0 : phase i 0#32 = 1#1) (h1 : ¬ phase i 1#32 = 1#1) (h2 : ¬ phase i 2#32 = 1#1) (h3 : ¬ phase i 3#32 = 1#1) (h4 : ¬ k0_cond5 i = 1#1) :
    cc0__fused (F := F) i arg2 harg2 arg3 harg3 arg4 harg4 arg5 harg5 arg6 harg6 arg7 harg7 arg8 harg8 arg9 harg9 arg10 harg10 arg11 harg11 = seg0 i arg2 harg2 arg3 harg3 arg4 harg4 arg5 harg5 arg6 harg6 arg7 harg7 arg8 harg8 arg9 harg9 arg10 harg10 arg11 harg11 (pure ⟨⟩) := by
  rw [fused_eq_tail0]
  rw [tail0, dif_pos h0]
  rw [tail1, dif_neg h1, tail2, dif_neg h2, tail3, dif_neg h3, tail4, dif_neg h4]

/-- At a point of phase 1 the body is that phase's statements. -/
theorem fused_phase1 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (h0 : ¬ phase i 0#32 = 1#1) (h1 : phase i 1#32 = 1#1) (h2 : ¬ phase i 2#32 = 1#1) (h3 : ¬ phase i 3#32 = 1#1) (h4 : ¬ k0_cond5 i = 1#1) :
    cc0__fused (F := F) i arg2 harg2 arg3 harg3 arg4 harg4 arg5 harg5 arg6 harg6 arg7 harg7 arg8 harg8 arg9 harg9 arg10 harg10 arg11 harg11 = seg1 i arg2 harg2 arg3 harg3 arg4 harg4 arg5 harg5 arg6 harg6 arg7 harg7 arg8 harg8 arg9 harg9 arg10 harg10 arg11 harg11 (pure ⟨⟩) := by
  rw [fused_eq_tail0]
  rw [tail0, dif_neg h0]
  rw [tail1, dif_pos h1]
  rw [tail2, dif_neg h2, tail3, dif_neg h3, tail4, dif_neg h4]

/-- At a point of phase 2 the body is that phase's statements. -/
theorem fused_phase2 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (h0 : ¬ phase i 0#32 = 1#1) (h1 : ¬ phase i 1#32 = 1#1) (h2 : phase i 2#32 = 1#1) (h3 : ¬ phase i 3#32 = 1#1) (h4 : ¬ k0_cond5 i = 1#1) :
    cc0__fused (F := F) i arg2 harg2 arg3 harg3 arg4 harg4 arg5 harg5 arg6 harg6 arg7 harg7 arg8 harg8 arg9 harg9 arg10 harg10 arg11 harg11 = seg2 i arg2 harg2 arg3 harg3 arg4 harg4 arg5 harg5 arg6 harg6 arg7 harg7 arg8 harg8 arg9 harg9 arg10 harg10 arg11 harg11 (pure ⟨⟩) := by
  rw [fused_eq_tail0]
  rw [tail0, dif_neg h0]
  rw [tail1, dif_neg h1]
  rw [tail2, dif_pos h2]
  rw [tail3, dif_neg h3, tail4, dif_neg h4]

/-- At a point of phase 3 the body is that phase's statements. -/
theorem fused_phase3 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (h0 : ¬ phase i 0#32 = 1#1) (h1 : ¬ phase i 1#32 = 1#1) (h2 : ¬ phase i 2#32 = 1#1) (h3 : phase i 3#32 = 1#1) (h4 : ¬ k0_cond5 i = 1#1) :
    cc0__fused (F := F) i arg2 harg2 arg3 harg3 arg4 harg4 arg5 harg5 arg6 harg6 arg7 harg7 arg8 harg8 arg9 harg9 arg10 harg10 arg11 harg11 = seg3 i arg2 harg2 arg3 harg3 arg4 harg4 arg5 harg5 arg6 harg6 arg7 harg7 arg8 harg8 arg9 harg9 arg10 harg10 arg11 harg11 (pure ⟨⟩) := by
  rw [fused_eq_tail0]
  rw [tail0, dif_neg h0]
  rw [tail1, dif_neg h1]
  rw [tail2, dif_neg h2]
  rw [tail3, dif_pos h3]
  rw [tail4, dif_neg h4]

/-- At a point of phase 4 or 5 the body is those phases' statements. -/
theorem fused_phase4 (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (h0 : ¬ phase i 0#32 = 1#1) (h1 : ¬ phase i 1#32 = 1#1) (h2 : ¬ phase i 2#32 = 1#1) (h3 : ¬ phase i 3#32 = 1#1) (h4 : k0_cond5 i = 1#1) :
    cc0__fused (F := F) i arg2 harg2 arg3 harg3 arg4 harg4 arg5 harg5 arg6 harg6 arg7 harg7 arg8 harg8 arg9 harg9 arg10 harg10 arg11 harg11 = seg4 i arg2 harg2 arg3 harg3 arg4 harg4 arg5 harg5 arg6 harg6 arg7 harg7 arg8 harg8 arg9 harg9 arg10 harg10 arg11 harg11 h4 := by
  rw [fused_eq_tail0, tail0, dif_neg h0, tail1, dif_neg h1, tail2, dif_neg h2, tail3, dif_neg h3, tail4, dif_pos h4]

end Cert.KernelIdeal.Hand

end
-- ==== Proof.Run0.lean ====
/-
  Phase 0 of the fused kernel's body, run once at a symbolic point.
-/
module

public import proofs.«01_k».proof.Proof.Gen.KernelIdeal.Frame
public import proofs.«01_k».proof.Proof.Root
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the stores of a phase-0 point leave in the first scratch, as pieces (last first), with the proof that the phase runs. -/
noncomputable def run0 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
     (x : S32x2048.Idx → Elt F .f32) (w : S1x1408x1024.Idx → Elt F .f32) (s : S1x22x16.Idx → Elt F .f32) (hg : S32x1408.Idx → Elt F .f32) :
    { L : List (View.Piece (Elt F) S32x1408 .f32) // ∀ (E : Set ℕ) (K : PUnit → sProp 𝕄),
      iprop(owns (c : Thread nD τ) arg2 fullShare x ∗ owns (c : Thread nD τ) arg3 fullShare w ∗ owns (c : Thread nD τ) arg4 fullShare s ∗ owns (c : Thread nD τ) arg10 fullShare hg
          ∗ (iprop(owns (c : Thread nD τ) arg2 fullShare x ∗ owns (c : Thread nD τ) arg3 fullShare w ∗ owns (c : Thread nD τ) arg4 fullShare s
              ∗ owns (c : Thread nD τ) arg10 fullShare (arg10.view.read (Elt F) (arg10.view.writes (Elt F) (harg10.unread hg) L))) -∗ K ⟨⟩))
        ⊢ wp frame (wpE (defs₀ (F := F)) Variants.none c none) E
            (seg0 i arg2 harg2 arg3 harg3 arg4 harg4 arg5 harg5 arg6 harg6 arg7 harg7 arg8 harg8 arg9 harg9 arg10 harg10 arg11 harg11 (pure ⟨⟩)) K } := by
  refine ⟨?_, fun E K => ?run⟩
  case run =>
    unfold seg0
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f10, %hf10, H10⟩, Hk⟩
    obtain rfl := harg2.eq_unread hf2; obtain rfl := harg3.eq_unread hf3; obtain rfl := harg4.eq_unread hf4; obtain rfl := harg10.eq_unread hf10
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; swap; · iexact H10
    ipureintro; rfl

end Cert.KernelIdeal.Hand

end
-- ==== Proof.Run1.lean ====
/-
  Phase 1 of the fused kernel's body, run once at a symbolic point.
-/
module

public import proofs.«01_k».proof.Proof.Gen.KernelIdeal.Frame
public import proofs.«01_k».proof.Proof.Root
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the stores of a phase-1 point leave in the first scratch, as pieces (last first), with the proof that the phase runs. -/
noncomputable def run1 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
     (x : S32x2048.Idx → Elt F .f32) (w : S1x1408x1024.Idx → Elt F .f32) (s : S1x22x16.Idx → Elt F .f32) (hg : S32x1408.Idx → Elt F .f32) :
    { L : List (View.Piece (Elt F) S32x1408 .f32) // ∀ (E : Set ℕ) (K : PUnit → sProp 𝕄),
      iprop(owns (c : Thread nD τ) arg2 fullShare x ∗ owns (c : Thread nD τ) arg3 fullShare w ∗ owns (c : Thread nD τ) arg4 fullShare s ∗ owns (c : Thread nD τ) arg10 fullShare hg
          ∗ (iprop(owns (c : Thread nD τ) arg2 fullShare x ∗ owns (c : Thread nD τ) arg3 fullShare w ∗ owns (c : Thread nD τ) arg4 fullShare s
              ∗ owns (c : Thread nD τ) arg10 fullShare (arg10.view.read (Elt F) (arg10.view.writes (Elt F) (harg10.unread hg) L))) -∗ K ⟨⟩))
        ⊢ wp frame (wpE (defs₀ (F := F)) Variants.none c none) E
            (seg1 i arg2 harg2 arg3 harg3 arg4 harg4 arg5 harg5 arg6 harg6 arg7 harg7 arg8 harg8 arg9 harg9 arg10 harg10 arg11 harg11 (pure ⟨⟩)) K } := by
  refine ⟨?_, fun E K => ?run⟩
  case run =>
    unfold seg1
    simp only [k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f10, %hf10, H10⟩, Hk⟩
    obtain rfl := harg2.eq_unread hf2; obtain rfl := harg3.eq_unread hf3; obtain rfl := harg4.eq_unread hf4; obtain rfl := harg10.eq_unread hf10
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; swap; · iexact H10
    ipureintro; rfl

end Cert.KernelIdeal.Hand

end
-- ==== Proof.Run2.lean ====
/-
  Phase 2 of the fused kernel's body, run once at a symbolic point.
-/
module

public import proofs.«01_k».proof.Proof.Gen.KernelIdeal.Frame
public import proofs.«01_k».proof.Proof.Root
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the stores of a phase-2 point leave in the second scratch, as pieces (last first), with the proof that the phase runs. -/
noncomputable def run2 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
     (x : S32x2048.Idx → Elt F .f32) (w : S1x1408x1024.Idx → Elt F .f32) (s : S1x22x16.Idx → Elt F .f32) (ha : S32x1408.Idx → Elt F .f32) :
    { L : List (View.Piece (Elt F) S32x1408 .f32) // ∀ (E : Set ℕ) (K : PUnit → sProp 𝕄),
      iprop(owns (c : Thread nD τ) arg2 fullShare x ∗ owns (c : Thread nD τ) arg3 fullShare w ∗ owns (c : Thread nD τ) arg4 fullShare s ∗ owns (c : Thread nD τ) arg11 fullShare ha
          ∗ (iprop(owns (c : Thread nD τ) arg2 fullShare x ∗ owns (c : Thread nD τ) arg3 fullShare w ∗ owns (c : Thread nD τ) arg4 fullShare s
              ∗ owns (c : Thread nD τ) arg11 fullShare (arg11.view.read (Elt F) (arg11.view.writes (Elt F) (harg11.unread ha) L))) -∗ K ⟨⟩))
        ⊢ wp frame (wpE (defs₀ (F := F)) Variants.none c none) E
            (seg2 i arg2 harg2 arg3 harg3 arg4 harg4 arg5 harg5 arg6 harg6 arg7 harg7 arg8 harg8 arg9 harg9 arg10 harg10 arg11 harg11 (pure ⟨⟩)) K } := by
  refine ⟨?_, fun E K => ?run⟩
  case run =>
    unfold seg2
    simp only [k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f11, %hf11, H11⟩, Hk⟩
    obtain rfl := harg2.eq_unread hf2; obtain rfl := harg3.eq_unread hf3; obtain rfl := harg4.eq_unread hf4; obtain rfl := harg11.eq_unread hf11
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; swap; · iexact H11
    ipureintro; rfl

end Cert.KernelIdeal.Hand

end
-- ==== Proof.Run3.lean ====
/-
  Phase 3 of the fused kernel's body, run once at a symbolic point.
-/
module

public import proofs.«01_k».proof.Proof.Gen.KernelIdeal.Frame
public import proofs.«01_k».proof.Proof.Root
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the stores of a phase-3 point leave in the second scratch, as pieces (last first), with the proof that the phase runs. -/
noncomputable def run3 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
     (x : S32x2048.Idx → Elt F .f32) (w : S1x1408x1024.Idx → Elt F .f32) (s : S1x22x16.Idx → Elt F .f32) (hg : S32x1408.Idx → Elt F .f32) (ha : S32x1408.Idx → Elt F .f32) :
    { L : List (View.Piece (Elt F) S32x1408 .f32) // ∀ (E : Set ℕ) (K : PUnit → sProp 𝕄),
      iprop(owns (c : Thread nD τ) arg2 fullShare x ∗ owns (c : Thread nD τ) arg3 fullShare w ∗ owns (c : Thread nD τ) arg4 fullShare s ∗ owns (c : Thread nD τ) arg10 fullShare hg ∗ owns (c : Thread nD τ) arg11 fullShare ha
          ∗ (iprop(owns (c : Thread nD τ) arg2 fullShare x ∗ owns (c : Thread nD τ) arg3 fullShare w ∗ owns (c : Thread nD τ) arg4 fullShare s ∗ owns (c : Thread nD τ) arg10 fullShare hg
              ∗ owns (c : Thread nD τ) arg11 fullShare (arg11.view.read (Elt F) (arg11.view.writes (Elt F) (harg11.unread ha) L))) -∗ K ⟨⟩))
        ⊢ wp frame (wpE (defs₀ (F := F)) Variants.none c none) E
            (seg3 i arg2 harg2 arg3 harg3 arg4 harg4 arg5 harg5 arg6 harg6 arg7 harg7 arg8 harg8 arg9 harg9 arg10 harg10 arg11 harg11 (pure ⟨⟩)) K } := by
  refine ⟨?_, fun E K => ?run⟩
  case run =>
    unfold seg3
    simp only [k0_part14_eq_skeleton, k0_part15_eq_skeleton, k0_part16_eq_skeleton, k0_part17_eq_skeleton, k0_part18_eq_skeleton, k0_part19_eq_skeleton]
    unfold owns
    iintro ⟨⟨%f2, %hf2, H2⟩, ⟨%f3, %hf3, H3⟩, ⟨%f4, %hf4, H4⟩, ⟨%f10, %hf10, H10⟩, ⟨%f11, %hf11, H11⟩, Hk⟩
    obtain rfl := harg2.eq_unread hf2; obtain rfl := harg3.eq_unread hf3; obtain rfl := harg4.eq_unread hf4; obtain rfl := harg10.eq_unread hf10; obtain rfl := harg11.eq_unread hf11
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H10]
    · iexists _; isplitr; · ipureintro; exact harg10.read_unread _
      iexact H10
    iexists _; isplitr; swap; · iexact H11
    ipureintro; rfl

end Cert.KernelIdeal.Hand

end
-- ==== Proof.Flat.lean ====
/-
  The statements of phases 4 and 5 with their tests decided: at expert 0 the eight blocks are stored, at any other expert
  each is added to what is there.
-/
module

public import proofs.«01_k».proof.Proof.Root

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- Part 20 at expert 0. -/
noncomputable def part20First (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (arg1 : BitVec 32) (k0_h5 : k0_cond5 i = 1#1) (k0_h6 : k0_cond6 i = 1#1) :
    Prog (TpuEff nD τ sig (Elt F) Λ₀ .tc) (Σ' (v15 : BitVec 32) (v26 : FVec F S32x1408 .f32), BitVec 32) := do
  let v15 : BitVec 32 := Scalar.subi arg1 4#32
  let v16 : Vec F S32x2 .i32 ← Prog.lift (.load arg7 (Rect.unit (s := S32x2) ![0, 0] S32x2.size inb_S32x2_S32x2_0_0).toLoadRect (View.loadsAt_vmem h_S32x2))
  let v17 : Vec F S32x2 .f32 ← Prog.lift (.load arg8 (Rect.unit (s := S32x2) ![0, 0] S32x2.size inb_S32x2_S32x2_0_0).toLoadRect (View.loadsAt_vmem h_S32x2))
  let v24 : Vec F S32x1408 .f32 ← Prog.lift (.load arg11 (Rect.unit (s := S32x1408) ![0, 0] S32x1408.size inb_S32x1408_S32x1408_0_0).toLoadRect (View.loadsAt_vmem h_S32x1408))
  let v32 : Vec F S1x1x11 .f32 ← Prog.lift (.load arg6 (Rect.unit (s := S1x16x11) (k0_off1 i 0#32) S1x1x11.size (k0_off1_inb i k0_h5 0)).toLoadRect (View.loadsAt_vmem h_S1x1x11))
  let v39 : Vec F S1x128x1408 .f32 ← Prog.lift (.load arg5 (Rect.unit (s := S1x1024x1408) ![0, 0, 0] S1x128x1408.size inb_S1x1024x1408_S1x128x1408_0_0_0).toLoadRect (View.loadsAt_vmem h_S1x128x1408))
  let v196 : Vec F S32x128 .f32 ← Prog.lift (.load arg9 (Rect.unit (s := S32x2048) (k0_off2 i) S32x128.size (k0_off2_inb i k0_h5 k0_h6)).toLoadRect (View.loadsAt_vmem h_S32x128))
  Prog.lift (.store arg9 (Rect.unit (s := S32x2048) (k0_off2 i) S32x128.size (k0_off2_inb i k0_h5 k0_h6)) (k0_pay66 arg0 v16 v17 v24 v32 v39) Finset.univ (View.stores_vmem_bits_univ h_S32x128 rfl) (.inl rfl))
  let v48 : BitVec 32 := Scalar.muli v15 1024#32
  pure ⟨v15, k0_pay65 arg0 v16 v17 v24, v48⟩

/-- Part 20 is that list of statements. -/
theorem part20_eq_first (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (arg1 : BitVec 32) (k0_h5 : k0_cond5 i = 1#1) (k0_h6 : k0_cond6 i = 1#1) (k0_h7 : ¬ k0_cond7 i = 1#1) :
    k0_part20 (F := F) i arg2 harg2 arg3 harg3 arg4 harg4 arg5 harg5 arg6 harg6 arg7 harg7 arg8 harg8 arg9 harg9 arg10 harg10 arg11 harg11 arg0 arg1 k0_h5 = part20First i arg2 harg2 arg3 harg3 arg4 harg4 arg5 harg5 arg6 harg6 arg7 harg7 arg8 harg8 arg9 harg9 arg10 harg10 arg11 harg11 arg0 arg1 k0_h5 k0_h6 := by
  rw [k0_part20_eq_skeleton]
  simp only [k0_part20_skel, part20First, dif_pos k0_h6, dif_neg k0_h7]

/-- Part 21 at expert 0. -/
noncomputable def part21First (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h8 : k0_cond8 i = 1#1) (v15 : BitVec 32) (v26 : FVec F S32x1408 .f32) (v48 : BitVec 32) :
    Prog (TpuEff nD τ sig (Elt F) Λ₀ .tc) (Σ' (v70 : BitVec 32), FVec F S32x128 .f32) := do
  let v53 : Vec F S1x1x11 .f32 ← Prog.lift (.load arg6 (Rect.unit (s := S1x16x11) (k0_off1 i 1#32) S1x1x11.size (k0_off1_inb i k0_h5 1)).toLoadRect (View.loadsAt_vmem h_S1x1x11))
  let v60 : Vec F S1x128x1408 .f32 ← Prog.lift (.load arg5 (Rect.unit (s := S1x1024x1408) ![0, 128, 0] S1x128x1408.size inb_S1x1024x1408_S1x128x1408_0_128_0).toLoadRect (View.loadsAt_vmem h_S1x128x1408))
  let v196 : Vec F S32x128 .f32 ← Prog.lift (.load arg9 (Rect.unit (s := S32x2048) (k0_off4 i) S32x128.size (k0_off4_inb i k0_h5 k0_h8)).toLoadRect (View.loadsAt_vmem h_S32x128))
  Prog.lift (.store arg9 (Rect.unit (s := S32x2048) (k0_off4 i) S32x128.size (k0_off4_inb i k0_h5 k0_h8)) (k0_pay68 v26 v53 v60) Finset.univ (View.stores_vmem_bits_univ h_S32x128 rfl) (.inl rfl))
  let v69 : BitVec 32 := Scalar.muli v15 1024#32
  let v70 : BitVec 32 := Scalar.addi v69 256#32
  let v74 : Vec F S1x1x11 .f32 ← Prog.lift (.load arg6 (Rect.unit (s := S1x16x11) (k0_off1 i 2#32) S1x1x11.size (k0_off1_inb i k0_h5 2)).toLoadRect (View.loadsAt_vmem h_S1x1x11))
  let v81 : Vec F S1x128x1408 .f32 ← Prog.lift (.load arg5 (Rect.unit (s := S1x1024x1408) ![0, 256, 0] S1x128x1408.size inb_S1x1024x1408_S1x128x1408_0_256_0).toLoadRect (View.loadsAt_vmem h_S1x128x1408))
  pure ⟨v70, k0_pay70 v26 v74 v81⟩

/-- Part 21 is that list of statements. -/
theorem part21_eq_first (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v48 : BitVec 32) (k0_h8 : k0_cond8 i = 1#1) (k0_h9 : ¬ k0_cond9 i = 1#1) :
    k0_part21 (F := F) i arg2 harg2 arg3 harg3 arg4 harg4 arg5 harg5 arg6 harg6 arg7 harg7 arg8 harg8 arg9 harg9 arg10 harg10 arg11 harg11 arg0 k0_h5 v15 v26 v48 = part21First i arg2 harg2 arg3 harg3 arg4 harg4 arg5 harg5 arg6 harg6 arg7 harg7 arg8 harg8 arg9 harg9 arg10 harg10 arg11 harg11 arg0 k0_h5 k0_h8 v15 v26 v48 := by
  rw [k0_part21_eq_skeleton]
  simp only [k0_part21_skel, part21First, dif_pos k0_h8, dif_neg k0_h9]

/-- Part 22 at expert 0. -/
noncomputable def part22First (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h10 : k0_cond10 i = 1#1) (k0_h12 : k0_cond12 i = 1#1) (v15 : BitVec 32) (v26 : FVec F S32x1408 .f32) (v70 : BitVec 32) (v83 : FVec F S32x128 .f32) :
    Prog (TpuEff nD τ sig (Elt F) Λ₀ .tc) (BitVec 32) := do
  let v196 : Vec F S32x128 .f32 ← Prog.lift (.load arg9 (Rect.unit (s := S32x2048) (k0_off6 i) S32x128.size (k0_off6_inb i k0_h5 k0_h10)).toLoadRect (View.loadsAt_vmem h_S32x128))
  Prog.lift (.store arg9 (Rect.unit (s := S32x2048) (k0_off6 i) S32x128.size (k0_off6_inb i k0_h5 k0_h10)) v83 Finset.univ (View.stores_vmem_bits_univ h_S32x128 rfl) (.inl rfl))
  let v95 : Vec F S1x1x11 .f32 ← Prog.lift (.load arg6 (Rect.unit (s := S1x16x11) (k0_off1 i 3#32) S1x1x11.size (k0_off1_inb i k0_h5 3)).toLoadRect (View.loadsAt_vmem h_S1x1x11))
  let v102 : Vec F S1x128x1408 .f32 ← Prog.lift (.load arg5 (Rect.unit (s := S1x1024x1408) ![0, 384, 0] S1x128x1408.size inb_S1x1024x1408_S1x128x1408_0_384_0).toLoadRect (View.loadsAt_vmem h_S1x128x1408))
  let v196 : Vec F S32x128 .f32 ← Prog.lift (.load arg9 (Rect.unit (s := S32x2048) (k0_off8 i) S32x128.size (k0_off8_inb i k0_h5 k0_h12)).toLoadRect (View.loadsAt_vmem h_S32x128))
  Prog.lift (.store arg9 (Rect.unit (s := S32x2048) (k0_off8 i) S32x128.size (k0_off8_inb i k0_h5 k0_h12)) (k0_pay72 v26 v95 v102) Finset.univ (View.stores_vmem_bits_univ h_S32x128 rfl) (.inl rfl))
  let v111 : BitVec 32 := Scalar.muli v15 1024#32
  let v112 : BitVec 32 := Scalar.addi v111 512#32
  pure v112

/-- Part 22 is that list of statements. -/
theorem part22_eq_first (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v70 : BitVec 32) (v83 : FVec F S32x128 .f32) (k0_h10 : k0_cond10 i = 1#1) (k0_h11 : ¬ k0_cond11 i = 1#1) (k0_h12 : k0_cond12 i = 1#1) (k0_h13 : ¬ k0_cond13 i = 1#1) :
    k0_part22 (F := F) i arg2 harg2 arg3 harg3 arg4 harg4 arg5 harg5 arg6 harg6 arg7 harg7 arg8 harg8 arg9 harg9 arg10 harg10 arg11 harg11 arg0 k0_h5 v15 v26 v70 v83 = part22First i arg2 harg2 arg3 harg3 arg4 harg4 arg5 harg5 arg6 harg6 arg7 harg7 arg8 harg8 arg9 harg9 arg10 harg10 arg11 harg11 arg0 k0_h5 k0_h10 k0_h12 v15 v26 v70 v83 := by
  rw [k0_part22_eq_skeleton]
  simp only [k0_part22_skel, part22First, dif_pos k0_h10, dif_neg k0_h11, dif_pos k0_h12, dif_neg k0_h13]

/-- Part 23 at expert 0. -/
noncomputable def part23First (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h14 : k0_cond14 i = 1#1) (k0_h16 : k0_cond16 i = 1#1) (v15 : BitVec 32) (v26 : FVec F S32x1408 .f32) (v112 : BitVec 32) :
    Prog (TpuEff nD τ sig (Elt F) Λ₀ .tc) (Σ' (v133 : BitVec 32) (v146 : FVec F S32x128 .f32), BitVec 32) := do
  let v116 : Vec F S1x1x11 .f32 ← Prog.lift (.load arg6 (Rect.unit (s := S1x16x11) (k0_off1 i 4#32) S1x1x11.size (k0_off1_inb i k0_h5 4)).toLoadRect (View.loadsAt_vmem h_S1x1x11))
  let v123 : Vec F S1x128x1408 .f32 ← Prog.lift (.load arg5 (Rect.unit (s := S1x1024x1408) ![0, 512, 0] S1x128x1408.size inb_S1x1024x1408_S1x128x1408_0_512_0).toLoadRect (View.loadsAt_vmem h_S1x128x1408))
  let v196 : Vec F S32x128 .f32 ← Prog.lift (.load arg9 (Rect.unit (s := S32x2048) (k0_off10 i) S32x128.size (k0_off10_inb i k0_h5 k0_h14)).toLoadRect (View.loadsAt_vmem h_S32x128))
  Prog.lift (.store arg9 (Rect.unit (s := S32x2048) (k0_off10 i) S32x128.size (k0_off10_inb i k0_h5 k0_h14)) (k0_pay74 v26 v116 v123) Finset.univ (View.stores_vmem_bits_univ h_S32x128 rfl) (.inl rfl))
  let v132 : BitVec 32 := Scalar.muli v15 1024#32
  let v133 : BitVec 32 := Scalar.addi v132 640#32
  let v137 : Vec F S1x1x11 .f32 ← Prog.lift (.load arg6 (Rect.unit (s := S1x16x11) (k0_off1 i 5#32) S1x1x11.size (k0_off1_inb i k0_h5 5)).toLoadRect (View.loadsAt_vmem h_S1x1x11))
  let v144 : Vec F S1x128x1408 .f32 ← Prog.lift (.load arg5 (Rect.unit (s := S1x1024x1408) ![0, 640, 0] S1x128x1408.size inb_S1x1024x1408_S1x128x1408_0_640_0).toLoadRect (View.loadsAt_vmem h_S1x128x1408))
  let v196 : Vec F S32x128 .f32 ← Prog.lift (.load arg9 (Rect.unit (s := S32x2048) (k0_off12 i) S32x128.size (k0_off12_inb i k0_h5 k0_h16)).toLoadRect (View.loadsAt_vmem h_S32x128))
  Prog.lift (.store arg9 (Rect.unit (s := S32x2048) (k0_off12 i) S32x128.size (k0_off12_inb i k0_h5 k0_h16)) (k0_pay76 v26 v137 v144) Finset.univ (View.stores_vmem_bits_univ h_S32x128 rfl) (.inl rfl))
  let v150 : BitVec 1 := Scalar.cmpi .ne arg0 0#32
  let v151 : BitVec 32 := Scalar.extui v150
  pure ⟨v133, k0_pay76 v26 v137 v144, v151⟩

/-- Part 23 is that list of statements. -/
theorem part23_eq_first (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v112 : BitVec 32) (k0_h14 : k0_cond14 i = 1#1) (k0_h15 : ¬ k0_cond15 i = 1#1) (k0_h16 : k0_cond16 i = 1#1) :
    k0_part23 (F := F) i arg2 harg2 arg3 harg3 arg4 harg4 arg5 harg5 arg6 harg6 arg7 harg7 arg8 harg8 arg9 harg9 arg10 harg10 arg11 harg11 arg0 k0_h5 v15 v26 v112 = part23First i arg2 harg2 arg3 harg3 arg4 harg4 arg5 harg5 arg6 harg6 arg7 harg7 arg8 harg8 arg9 harg9 arg10 harg10 arg11 harg11 arg0 k0_h5 k0_h14 k0_h16 v15 v26 v112 := by
  rw [k0_part23_eq_skeleton]
  simp only [k0_part23_skel, part23First, dif_pos k0_h14, dif_neg k0_h15, dif_pos k0_h16]

/-- Part 24 at expert 0. -/
noncomputable def part24First (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h18 : k0_cond18 i = 1#1) (v15 : BitVec 32) (v26 : FVec F S32x1408 .f32) (v133 : BitVec 32) (v146 : FVec F S32x128 .f32) (v151 : BitVec 32) :
    Prog (TpuEff nD τ sig (Elt F) Λ₀ .tc) (Σ' (v175 : BitVec 32), FVec F S32x1408 .f32) := do
  let v158 : Vec F S1x1x11 .f32 ← Prog.lift (.load arg6 (Rect.unit (s := S1x16x11) (k0_off1 i 6#32) S1x1x11.size (k0_off1_inb i k0_h5 6)).toLoadRect (View.loadsAt_vmem h_S1x1x11))
  let v165 : Vec F S1x128x1408 .f32 ← Prog.lift (.load arg5 (Rect.unit (s := S1x1024x1408) ![0, 768, 0] S1x128x1408.size inb_S1x1024x1408_S1x128x1408_0_768_0).toLoadRect (View.loadsAt_vmem h_S1x128x1408))
  let v196 : Vec F S32x128 .f32 ← Prog.lift (.load arg9 (Rect.unit (s := S32x2048) (k0_off14 i) S32x128.size (k0_off14_inb i k0_h5 k0_h18)).toLoadRect (View.loadsAt_vmem h_S32x128))
  Prog.lift (.store arg9 (Rect.unit (s := S32x2048) (k0_off14 i) S32x128.size (k0_off14_inb i k0_h5 k0_h18)) (k0_pay78 v26 v158 v165) Finset.univ (View.stores_vmem_bits_univ h_S32x128 rfl) (.inl rfl))
  let v174 : BitVec 32 := Scalar.muli v15 1024#32
  let v175 : BitVec 32 := Scalar.addi v174 896#32
  let v179 : Vec F S1x1x11 .f32 ← Prog.lift (.load arg6 (Rect.unit (s := S1x16x11) (k0_off1 i 7#32) S1x1x11.size (k0_off1_inb i k0_h5 7)).toLoadRect (View.loadsAt_vmem h_S1x1x11))
  pure ⟨v175, k0_pay80 v26 v179⟩

/-- Part 24 is that list of statements. -/
theorem part24_eq_first (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v133 : BitVec 32) (v146 : FVec F S32x128 .f32) (v151 : BitVec 32) (k0_h17 : ¬ k0_cond17 i = 1#1) (k0_h18 : k0_cond18 i = 1#1) (k0_h19 : ¬ k0_cond19 i = 1#1) :
    k0_part24 (F := F) i arg2 harg2 arg3 harg3 arg4 harg4 arg5 harg5 arg6 harg6 arg7 harg7 arg8 harg8 arg9 harg9 arg10 harg10 arg11 harg11 arg0 k0_h5 v15 v26 v133 v146 v151 = part24First i arg2 harg2 arg3 harg3 arg4 harg4 arg5 harg5 arg6 harg6 arg7 harg7 arg8 harg8 arg9 harg9 arg10 harg10 arg11 harg11 arg0 k0_h5 k0_h18 v15 v26 v133 v146 v151 := by
  rw [k0_part24_eq_skeleton]
  simp only [k0_part24_skel, part24First, dif_neg k0_h17, dif_pos k0_h18, dif_neg k0_h19]

/-- Part 20 at an expert other than 0. -/
noncomputable def part20Later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (arg1 : BitVec 32) (k0_h5 : k0_cond5 i = 1#1) (k0_h7 : k0_cond7 i = 1#1) :
    Prog (TpuEff nD τ sig (Elt F) Λ₀ .tc) (Σ' (v15 : BitVec 32) (v26 : FVec F S32x1408 .f32), BitVec 32) := do
  let v15 : BitVec 32 := Scalar.subi arg1 4#32
  let v16 : Vec F S32x2 .i32 ← Prog.lift (.load arg7 (Rect.unit (s := S32x2) ![0, 0] S32x2.size inb_S32x2_S32x2_0_0).toLoadRect (View.loadsAt_vmem h_S32x2))
  let v17 : Vec F S32x2 .f32 ← Prog.lift (.load arg8 (Rect.unit (s := S32x2) ![0, 0] S32x2.size inb_S32x2_S32x2_0_0).toLoadRect (View.loadsAt_vmem h_S32x2))
  let v24 : Vec F S32x1408 .f32 ← Prog.lift (.load arg11 (Rect.unit (s := S32x1408) ![0, 0] S32x1408.size inb_S32x1408_S32x1408_0_0).toLoadRect (View.loadsAt_vmem h_S32x1408))
  let v32 : Vec F S1x1x11 .f32 ← Prog.lift (.load arg6 (Rect.unit (s := S1x16x11) (k0_off1 i 0#32) S1x1x11.size (k0_off1_inb i k0_h5 0)).toLoadRect (View.loadsAt_vmem h_S1x1x11))
  let v39 : Vec F S1x128x1408 .f32 ← Prog.lift (.load arg5 (Rect.unit (s := S1x1024x1408) ![0, 0, 0] S1x128x1408.size inb_S1x1024x1408_S1x128x1408_0_0_0).toLoadRect (View.loadsAt_vmem h_S1x128x1408))
  let v196 : Vec F S32x128 .f32 ← Prog.lift (.load arg9 (Rect.unit (s := S32x2048) (k0_off3 i) S32x128.size (k0_off3_inb i k0_h5 k0_h7)).toLoadRect (View.loadsAt_vmem h_S32x128))
  let v200 : Vec F S32x128 .f32 ← Prog.lift (.load arg9 (Rect.unit (s := S32x2048) (k0_off3 i) S32x128.size (k0_off3_inb i k0_h5 k0_h7)).toLoadRect (View.loadsAt_vmem h_S32x128))
  Prog.lift (.store arg9 (Rect.unit (s := S32x2048) (k0_off3 i) S32x128.size (k0_off3_inb i k0_h5 k0_h7)) (k0_pay67 arg0 v16 v17 v24 v32 v39 v196) Finset.univ (View.stores_vmem_bits_univ h_S32x128 rfl) (.inl rfl))
  let v48 : BitVec 32 := Scalar.muli v15 1024#32
  pure ⟨v15, k0_pay65 arg0 v16 v17 v24, v48⟩

/-- Part 20 is that list of statements. -/
theorem part20_eq_later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (arg1 : BitVec 32) (k0_h5 : k0_cond5 i = 1#1) (k0_h6 : ¬ k0_cond6 i = 1#1) (k0_h7 : k0_cond7 i = 1#1) :
    k0_part20 (F := F) i arg2 harg2 arg3 harg3 arg4 harg4 arg5 harg5 arg6 harg6 arg7 harg7 arg8 harg8 arg9 harg9 arg10 harg10 arg11 harg11 arg0 arg1 k0_h5 = part20Later i arg2 harg2 arg3 harg3 arg4 harg4 arg5 harg5 arg6 harg6 arg7 harg7 arg8 harg8 arg9 harg9 arg10 harg10 arg11 harg11 arg0 arg1 k0_h5 k0_h7 := by
  rw [k0_part20_eq_skeleton]
  simp only [k0_part20_skel, part20Later, dif_neg k0_h6, dif_pos k0_h7]

/-- Part 21 at an expert other than 0. -/
noncomputable def part21Later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h9 : k0_cond9 i = 1#1) (v15 : BitVec 32) (v26 : FVec F S32x1408 .f32) (v48 : BitVec 32) :
    Prog (TpuEff nD τ sig (Elt F) Λ₀ .tc) (Σ' (v70 : BitVec 32), FVec F S32x128 .f32) := do
  let v53 : Vec F S1x1x11 .f32 ← Prog.lift (.load arg6 (Rect.unit (s := S1x16x11) (k0_off1 i 1#32) S1x1x11.size (k0_off1_inb i k0_h5 1)).toLoadRect (View.loadsAt_vmem h_S1x1x11))
  let v60 : Vec F S1x128x1408 .f32 ← Prog.lift (.load arg5 (Rect.unit (s := S1x1024x1408) ![0, 128, 0] S1x128x1408.size inb_S1x1024x1408_S1x128x1408_0_128_0).toLoadRect (View.loadsAt_vmem h_S1x128x1408))
  let v196 : Vec F S32x128 .f32 ← Prog.lift (.load arg9 (Rect.unit (s := S32x2048) (k0_off5 i) S32x128.size (k0_off5_inb i k0_h5 k0_h9)).toLoadRect (View.loadsAt_vmem h_S32x128))
  let v200 : Vec F S32x128 .f32 ← Prog.lift (.load arg9 (Rect.unit (s := S32x2048) (k0_off5 i) S32x128.size (k0_off5_inb i k0_h5 k0_h9)).toLoadRect (View.loadsAt_vmem h_S32x128))
  Prog.lift (.store arg9 (Rect.unit (s := S32x2048) (k0_off5 i) S32x128.size (k0_off5_inb i k0_h5 k0_h9)) (k0_pay69 v26 v53 v60 v196) Finset.univ (View.stores_vmem_bits_univ h_S32x128 rfl) (.inl rfl))
  let v69 : BitVec 32 := Scalar.muli v15 1024#32
  let v70 : BitVec 32 := Scalar.addi v69 256#32
  let v74 : Vec F S1x1x11 .f32 ← Prog.lift (.load arg6 (Rect.unit (s := S1x16x11) (k0_off1 i 2#32) S1x1x11.size (k0_off1_inb i k0_h5 2)).toLoadRect (View.loadsAt_vmem h_S1x1x11))
  let v81 : Vec F S1x128x1408 .f32 ← Prog.lift (.load arg5 (Rect.unit (s := S1x1024x1408) ![0, 256, 0] S1x128x1408.size inb_S1x1024x1408_S1x128x1408_0_256_0).toLoadRect (View.loadsAt_vmem h_S1x128x1408))
  pure ⟨v70, k0_pay70 v26 v74 v81⟩

/-- Part 21 is that list of statements. -/
theorem part21_eq_later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v48 : BitVec 32) (k0_h8 : ¬ k0_cond8 i = 1#1) (k0_h9 : k0_cond9 i = 1#1) :
    k0_part21 (F := F) i arg2 harg2 arg3 harg3 arg4 harg4 arg5 harg5 arg6 harg6 arg7 harg7 arg8 harg8 arg9 harg9 arg10 harg10 arg11 harg11 arg0 k0_h5 v15 v26 v48 = part21Later i arg2 harg2 arg3 harg3 arg4 harg4 arg5 harg5 arg6 harg6 arg7 harg7 arg8 harg8 arg9 harg9 arg10 harg10 arg11 harg11 arg0 k0_h5 k0_h9 v15 v26 v48 := by
  rw [k0_part21_eq_skeleton]
  simp only [k0_part21_skel, part21Later, dif_neg k0_h8, dif_pos k0_h9]

/-- Part 22 at an expert other than 0. -/
noncomputable def part22Later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h11 : k0_cond11 i = 1#1) (k0_h13 : k0_cond13 i = 1#1) (v15 : BitVec 32) (v26 : FVec F S32x1408 .f32) (v70 : BitVec 32) (v83 : FVec F S32x128 .f32) :
    Prog (TpuEff nD τ sig (Elt F) Λ₀ .tc) (BitVec 32) := do
  let v196 : Vec F S32x128 .f32 ← Prog.lift (.load arg9 (Rect.unit (s := S32x2048) (k0_off7 i) S32x128.size (k0_off7_inb i k0_h5 k0_h11)).toLoadRect (View.loadsAt_vmem h_S32x128))
  let v200 : Vec F S32x128 .f32 ← Prog.lift (.load arg9 (Rect.unit (s := S32x2048) (k0_off7 i) S32x128.size (k0_off7_inb i k0_h5 k0_h11)).toLoadRect (View.loadsAt_vmem h_S32x128))
  Prog.lift (.store arg9 (Rect.unit (s := S32x2048) (k0_off7 i) S32x128.size (k0_off7_inb i k0_h5 k0_h11)) (k0_pay71 v83 v196) Finset.univ (View.stores_vmem_bits_univ h_S32x128 rfl) (.inl rfl))
  let v95 : Vec F S1x1x11 .f32 ← Prog.lift (.load arg6 (Rect.unit (s := S1x16x11) (k0_off1 i 3#32) S1x1x11.size (k0_off1_inb i k0_h5 3)).toLoadRect (View.loadsAt_vmem h_S1x1x11))
  let v102 : Vec F S1x128x1408 .f32 ← Prog.lift (.load arg5 (Rect.unit (s := S1x1024x1408) ![0, 384, 0] S1x128x1408.size inb_S1x1024x1408_S1x128x1408_0_384_0).toLoadRect (View.loadsAt_vmem h_S1x128x1408))
  let v196 : Vec F S32x128 .f32 ← Prog.lift (.load arg9 (Rect.unit (s := S32x2048) (k0_off9 i) S32x128.size (k0_off9_inb i k0_h5 k0_h13)).toLoadRect (View.loadsAt_vmem h_S32x128))
  let v200 : Vec F S32x128 .f32 ← Prog.lift (.load arg9 (Rect.unit (s := S32x2048) (k0_off9 i) S32x128.size (k0_off9_inb i k0_h5 k0_h13)).toLoadRect (View.loadsAt_vmem h_S32x128))
  Prog.lift (.store arg9 (Rect.unit (s := S32x2048) (k0_off9 i) S32x128.size (k0_off9_inb i k0_h5 k0_h13)) (k0_pay73 v26 v95 v102 v196) Finset.univ (View.stores_vmem_bits_univ h_S32x128 rfl) (.inl rfl))
  let v111 : BitVec 32 := Scalar.muli v15 1024#32
  let v112 : BitVec 32 := Scalar.addi v111 512#32
  pure v112

/-- Part 22 is that list of statements. -/
theorem part22_eq_later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v70 : BitVec 32) (v83 : FVec F S32x128 .f32) (k0_h10 : ¬ k0_cond10 i = 1#1) (k0_h11 : k0_cond11 i = 1#1) (k0_h12 : ¬ k0_cond12 i = 1#1) (k0_h13 : k0_cond13 i = 1#1) :
    k0_part22 (F := F) i arg2 harg2 arg3 harg3 arg4 harg4 arg5 harg5 arg6 harg6 arg7 harg7 arg8 harg8 arg9 harg9 arg10 harg10 arg11 harg11 arg0 k0_h5 v15 v26 v70 v83 = part22Later i arg2 harg2 arg3 harg3 arg4 harg4 arg5 harg5 arg6 harg6 arg7 harg7 arg8 harg8 arg9 harg9 arg10 harg10 arg11 harg11 arg0 k0_h5 k0_h11 k0_h13 v15 v26 v70 v83 := by
  rw [k0_part22_eq_skeleton]
  simp only [k0_part22_skel, part22Later, dif_neg k0_h10, dif_pos k0_h11, dif_neg k0_h12, dif_pos k0_h13]

/-- Part 23 at an expert other than 0. -/
noncomputable def part23Later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h15 : k0_cond15 i = 1#1) (v15 : BitVec 32) (v26 : FVec F S32x1408 .f32) (v112 : BitVec 32) :
    Prog (TpuEff nD τ sig (Elt F) Λ₀ .tc) (Σ' (v133 : BitVec 32) (v146 : FVec F S32x128 .f32), BitVec 32) := do
  let v116 : Vec F S1x1x11 .f32 ← Prog.lift (.load arg6 (Rect.unit (s := S1x16x11) (k0_off1 i 4#32) S1x1x11.size (k0_off1_inb i k0_h5 4)).toLoadRect (View.loadsAt_vmem h_S1x1x11))
  let v123 : Vec F S1x128x1408 .f32 ← Prog.lift (.load arg5 (Rect.unit (s := S1x1024x1408) ![0, 512, 0] S1x128x1408.size inb_S1x1024x1408_S1x128x1408_0_512_0).toLoadRect (View.loadsAt_vmem h_S1x128x1408))
  let v196 : Vec F S32x128 .f32 ← Prog.lift (.load arg9 (Rect.unit (s := S32x2048) (k0_off11 i) S32x128.size (k0_off11_inb i k0_h5 k0_h15)).toLoadRect (View.loadsAt_vmem h_S32x128))
  let v200 : Vec F S32x128 .f32 ← Prog.lift (.load arg9 (Rect.unit (s := S32x2048) (k0_off11 i) S32x128.size (k0_off11_inb i k0_h5 k0_h15)).toLoadRect (View.loadsAt_vmem h_S32x128))
  Prog.lift (.store arg9 (Rect.unit (s := S32x2048) (k0_off11 i) S32x128.size (k0_off11_inb i k0_h5 k0_h15)) (k0_pay75 v26 v116 v123 v196) Finset.univ (View.stores_vmem_bits_univ h_S32x128 rfl) (.inl rfl))
  let v132 : BitVec 32 := Scalar.muli v15 1024#32
  let v133 : BitVec 32 := Scalar.addi v132 640#32
  let v137 : Vec F S1x1x11 .f32 ← Prog.lift (.load arg6 (Rect.unit (s := S1x16x11) (k0_off1 i 5#32) S1x1x11.size (k0_off1_inb i k0_h5 5)).toLoadRect (View.loadsAt_vmem h_S1x1x11))
  let v144 : Vec F S1x128x1408 .f32 ← Prog.lift (.load arg5 (Rect.unit (s := S1x1024x1408) ![0, 640, 0] S1x128x1408.size inb_S1x1024x1408_S1x128x1408_0_640_0).toLoadRect (View.loadsAt_vmem h_S1x128x1408))
  let v150 : BitVec 1 := Scalar.cmpi .ne arg0 0#32
  let v151 : BitVec 32 := Scalar.extui v150
  pure ⟨v133, k0_pay76 v26 v137 v144, v151⟩

/-- Part 23 is that list of statements. -/
theorem part23_eq_later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v112 : BitVec 32) (k0_h14 : ¬ k0_cond14 i = 1#1) (k0_h15 : k0_cond15 i = 1#1) (k0_h16 : ¬ k0_cond16 i = 1#1) :
    k0_part23 (F := F) i arg2 harg2 arg3 harg3 arg4 harg4 arg5 harg5 arg6 harg6 arg7 harg7 arg8 harg8 arg9 harg9 arg10 harg10 arg11 harg11 arg0 k0_h5 v15 v26 v112 = part23Later i arg2 harg2 arg3 harg3 arg4 harg4 arg5 harg5 arg6 harg6 arg7 harg7 arg8 harg8 arg9 harg9 arg10 harg10 arg11 harg11 arg0 k0_h5 k0_h15 v15 v26 v112 := by
  rw [k0_part23_eq_skeleton]
  simp only [k0_part23_skel, part23Later, dif_neg k0_h14, dif_pos k0_h15, dif_neg k0_h16]

/-- Part 24 at an expert other than 0. -/
noncomputable def part24Later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (k0_h17 : k0_cond17 i = 1#1) (k0_h19 : k0_cond19 i = 1#1) (v15 : BitVec 32) (v26 : FVec F S32x1408 .f32) (v133 : BitVec 32) (v146 : FVec F S32x128 .f32) (v151 : BitVec 32) :
    Prog (TpuEff nD τ sig (Elt F) Λ₀ .tc) (Σ' (v175 : BitVec 32), FVec F S32x1408 .f32) := do
  let v196 : Vec F S32x128 .f32 ← Prog.lift (.load arg9 (Rect.unit (s := S32x2048) (k0_off13 i) S32x128.size (k0_off13_inb i k0_h5 k0_h17)).toLoadRect (View.loadsAt_vmem h_S32x128))
  let v200 : Vec F S32x128 .f32 ← Prog.lift (.load arg9 (Rect.unit (s := S32x2048) (k0_off13 i) S32x128.size (k0_off13_inb i k0_h5 k0_h17)).toLoadRect (View.loadsAt_vmem h_S32x128))
  Prog.lift (.store arg9 (Rect.unit (s := S32x2048) (k0_off13 i) S32x128.size (k0_off13_inb i k0_h5 k0_h17)) (k0_pay77 v146 v196) Finset.univ (View.stores_vmem_bits_univ h_S32x128 rfl) (.inl rfl))
  let v158 : Vec F S1x1x11 .f32 ← Prog.lift (.load arg6 (Rect.unit (s := S1x16x11) (k0_off1 i 6#32) S1x1x11.size (k0_off1_inb i k0_h5 6)).toLoadRect (View.loadsAt_vmem h_S1x1x11))
  let v165 : Vec F S1x128x1408 .f32 ← Prog.lift (.load arg5 (Rect.unit (s := S1x1024x1408) ![0, 768, 0] S1x128x1408.size inb_S1x1024x1408_S1x128x1408_0_768_0).toLoadRect (View.loadsAt_vmem h_S1x128x1408))
  let v196 : Vec F S32x128 .f32 ← Prog.lift (.load arg9 (Rect.unit (s := S32x2048) (k0_off15 i) S32x128.size (k0_off15_inb i k0_h5 k0_h19)).toLoadRect (View.loadsAt_vmem h_S32x128))
  let v200 : Vec F S32x128 .f32 ← Prog.lift (.load arg9 (Rect.unit (s := S32x2048) (k0_off15 i) S32x128.size (k0_off15_inb i k0_h5 k0_h19)).toLoadRect (View.loadsAt_vmem h_S32x128))
  Prog.lift (.store arg9 (Rect.unit (s := S32x2048) (k0_off15 i) S32x128.size (k0_off15_inb i k0_h5 k0_h19)) (k0_pay79 v26 v158 v165 v196) Finset.univ (View.stores_vmem_bits_univ h_S32x128 rfl) (.inl rfl))
  let v174 : BitVec 32 := Scalar.muli v15 1024#32
  let v175 : BitVec 32 := Scalar.addi v174 896#32
  let v179 : Vec F S1x1x11 .f32 ← Prog.lift (.load arg6 (Rect.unit (s := S1x16x11) (k0_off1 i 7#32) S1x1x11.size (k0_off1_inb i k0_h5 7)).toLoadRect (View.loadsAt_vmem h_S1x1x11))
  pure ⟨v175, k0_pay80 v26 v179⟩

/-- Part 24 is that list of statements. -/
theorem part24_eq_later (i : grid0.Coords) (arg2 : Memref sig .tc .vmem S32x2048 .f32) (harg2 : arg2.IsWhole) (arg3 : Memref sig .tc .vmem S1x1408x1024 .f32) (harg3 : arg3.IsWhole) (arg4 : Memref sig .tc .vmem S1x22x16 .f32) (harg4 : arg4.IsWhole) (arg5 : Memref sig .tc .vmem S1x1024x1408 .f32) (harg5 : arg5.IsWhole) (arg6 : Memref sig .tc .vmem S1x16x11 .f32) (harg6 : arg6.IsWhole) (arg7 : Memref sig .tc .vmem S32x2 .i32) (harg7 : arg7.IsWhole) (arg8 : Memref sig .tc .vmem S32x2 .f32) (harg8 : arg8.IsWhole) (arg9 : Memref sig .tc .vmem S32x2048 .f32) (harg9 : arg9.IsWhole) (arg10 : Memref sig .tc .vmem S32x1408 .f32) (harg10 : arg10.IsWhole) (arg11 : Memref sig .tc .vmem S32x1408 .f32) (harg11 : arg11.IsWhole) (arg0 : BitVec 32) (k0_h5 : k0_cond5 i = 1#1) (v15 : BitVec 32) (v26 : FVec F S32x1408 .f32) (v133 : BitVec 32) (v146 : FVec F S32x128 .f32) (v151 : BitVec 32) (k0_h17 : k0_cond17 i = 1#1) (k0_h18 : ¬ k0_cond18 i = 1#1) (k0_h19 : k0_cond19 i = 1#1) :
    k0_part24 (F := F) i arg2 harg2 arg3 harg3 arg4 harg4 arg5 harg5 arg6 harg6 arg7 harg7 arg8 harg8 arg9 harg9 arg10 harg10 arg11 harg11 arg0 k0_h5 v15 v26 v133 v146 v151 = part24Later i arg2 harg2 arg3 harg3 arg4 harg4 arg5 harg5 arg6 harg6 arg7 harg7 arg8 harg8 arg9 harg9 arg10 harg10 arg11 harg11 arg0 k0_h5 k0_h17 k0_h19 v15 v26 v133 v146 v151 := by
  rw [k0_part24_eq_skeleton]
  simp only [k0_part24_skel, part24Later, dif_pos k0_h17, dif_neg k0_h18, dif_pos k0_h19]

end Cert.KernelIdeal.Hand

end
-- ==== Proof.Run4First.lean ====
/-
  Phases 4 and 5 of the fused kernel's body at expert 0, run once at a symbolic point.
-/
module

public import proofs.«01_k».proof.Proof.Gen.KernelIdeal.Frame
public import proofs.«01_k».proof.Proof.Flat
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the stores of a phase-4 or phase-5 point of expert 0 leave in the output block, as pieces (last first), with the proof that the phase runs. `h` is the half of the columns. -/
noncomputable def run4First (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (k0_h5 : k0_cond5 i = 1#1)
    (h6 : k0_cond6 i = 1#1) (h7 : ¬ k0_cond7 i = 1#1) (h8 : k0_cond8 i = 1#1) (h9 : ¬ k0_cond9 i = 1#1) (h10 : k0_cond10 i = 1#1) (h11 : ¬ k0_cond11 i = 1#1) (h12 : k0_cond12 i = 1#1) (h13 : ¬ k0_cond13 i = 1#1) (h14 : k0_cond14 i = 1#1) (h15 : ¬ k0_cond15 i = 1#1) (h16 : k0_cond16 i = 1#1) (h17 : ¬ k0_cond17 i = 1#1) (h18 : k0_cond18 i = 1#1) (h19 : ¬ k0_cond19 i = 1#1) (h20 : k0_cond20 i = 1#1) (h21 : ¬ k0_cond21 i = 1#1)
    (h : ℕ) (s0 : k0_off1 i 0#32 = ![0, 8 * h + 0, 0]) (s1 : k0_off1 i 1#32 = ![0, 8 * h + 1, 0]) (s2 : k0_off1 i 2#32 = ![0, 8 * h + 2, 0]) (s3 : k0_off1 i 3#32 = ![0, 8 * h + 3, 0]) (s4 : k0_off1 i 4#32 = ![0, 8 * h + 4, 0]) (s5 : k0_off1 i 5#32 = ![0, 8 * h + 5, 0]) (s6 : k0_off1 i 6#32 = ![0, 8 * h + 6, 0]) (s7 : k0_off1 i 7#32 = ![0, 8 * h + 7, 0])
    (o0 : k0_off2 i = ![0, 1024 * h + 0]) (o1 : k0_off4 i = ![0, 1024 * h + 128]) (o2 : k0_off6 i = ![0, 1024 * h + 256]) (o3 : k0_off8 i = ![0, 1024 * h + 384]) (o4 : k0_off10 i = ![0, 1024 * h + 512]) (o5 : k0_off12 i = ![0, 1024 * h + 640]) (o6 : k0_off14 i = ![0, 1024 * h + 768]) (o7 : k0_off16 i = ![0, 1024 * h + 896])
    (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) :
    { L : List (View.Piece (Elt F) S32x2048 .f32) // ∀ (E : Set ℕ) (K : PUnit → sProp 𝕄),
      iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha ∗ owns (c : Thread nD τ) arg9 fullShare o
          ∗ (iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha
              ∗ owns (c : Thread nD τ) arg9 fullShare (arg9.view.read (Elt F) (arg9.view.writes (Elt F) (harg9.unread o) L))) -∗ K ⟨⟩))
        ⊢ wp frame (wpE (defs₀ (F := F)) Variants.none c none) E
            (seg4 i arg2 harg2 arg3 harg3 arg4 harg4 arg5 harg5 arg6 harg6 arg7 harg7 arg8 harg8 arg9 harg9 arg10 harg10 arg11 harg11 k0_h5) K } := by
  refine ⟨?_, fun E K => ?run⟩
  case run =>
    unfold seg4
    letI : ClosedOff (k0_off1 i 0#32) := ⟨![0, 8 * h + 0, 0], s0⟩
    letI : ClosedOff (k0_off1 i 1#32) := ⟨![0, 8 * h + 1, 0], s1⟩
    letI : ClosedOff (k0_off1 i 2#32) := ⟨![0, 8 * h + 2, 0], s2⟩
    letI : ClosedOff (k0_off1 i 3#32) := ⟨![0, 8 * h + 3, 0], s3⟩
    letI : ClosedOff (k0_off1 i 4#32) := ⟨![0, 8 * h + 4, 0], s4⟩
    letI : ClosedOff (k0_off1 i 5#32) := ⟨![0, 8 * h + 5, 0], s5⟩
    letI : ClosedOff (k0_off1 i 6#32) := ⟨![0, 8 * h + 6, 0], s6⟩
    letI : ClosedOff (k0_off1 i 7#32) := ⟨![0, 8 * h + 7, 0], s7⟩
    letI : ClosedOff (k0_off2 i) := ⟨![0, 1024 * h + 0], o0⟩
    letI : ClosedOff (k0_off4 i) := ⟨![0, 1024 * h + 128], o1⟩
    letI : ClosedOff (k0_off6 i) := ⟨![0, 1024 * h + 256], o2⟩
    letI : ClosedOff (k0_off8 i) := ⟨![0, 1024 * h + 384], o3⟩
    letI : ClosedOff (k0_off10 i) := ⟨![0, 1024 * h + 512], o4⟩
    letI : ClosedOff (k0_off12 i) := ⟨![0, 1024 * h + 640], o5⟩
    letI : ClosedOff (k0_off14 i) := ⟨![0, 1024 * h + 768], o6⟩
    letI : ClosedOff (k0_off16 i) := ⟨![0, 1024 * h + 896], o7⟩
    simp only [part20_eq_first (F := F) (i := i) (k0_h5 := k0_h5) (k0_h6 := h6) (k0_h7 := h7), part21_eq_first (F := F) (i := i) (k0_h5 := k0_h5) (k0_h8 := h8) (k0_h9 := h9), part22_eq_first (F := F) (i := i) (k0_h5 := k0_h5) (k0_h10 := h10) (k0_h11 := h11) (k0_h12 := h12) (k0_h13 := h13), part23_eq_first (F := F) (i := i) (k0_h5 := k0_h5) (k0_h14 := h14) (k0_h15 := h15) (k0_h16 := h16), part24_eq_first (F := F) (i := i) (k0_h5 := k0_h5) (k0_h17 := h17) (k0_h18 := h18) (k0_h19 := h19), dif_pos h20, dif_neg h21]
    simp only [part20First, part21First, part22First, part23First, part24First]
    unfold owns
    iintro ⟨⟨%f5, %hf5, H5⟩, ⟨%f6, %hf6, H6⟩, ⟨%f7, %hf7, H7⟩, ⟨%f8, %hf8, H8⟩, ⟨%f11, %hf11, H11⟩, ⟨%f9, %hf9, H9⟩, Hk⟩
    obtain rfl := harg5.eq_unread hf5; obtain rfl := harg6.eq_unread hf6; obtain rfl := harg7.eq_unread hf7; obtain rfl := harg8.eq_unread hf8; obtain rfl := harg11.eq_unread hf11; obtain rfl := harg9.eq_unread hf9
    sl_exec
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]
    · iexists _; isplitr; · ipureintro; exact harg11.read_unread _
      iexact H11
    iexists _; isplitr; swap; · iexact H9
    ipureintro; rfl

end Cert.KernelIdeal.Hand

end
-- ==== Proof.Run4Later.lean ====
/-
  Phases 4 and 5 of the fused kernel's body at an expert other than 0, run once at a symbolic point.
-/
module

public import proofs.«01_k».proof.Proof.Gen.KernelIdeal.Frame
public import proofs.«01_k».proof.Proof.Flat
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- What the stores of a phase-4 or phase-5 point of a later expert leave in the output block, as pieces (last first), with the proof that the phase runs. `h` is the half of the columns. -/
noncomputable def run4Later (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (k0_h5 : k0_cond5 i = 1#1)
    (h6 : ¬ k0_cond6 i = 1#1) (h7 : k0_cond7 i = 1#1) (h8 : ¬ k0_cond8 i = 1#1) (h9 : k0_cond9 i = 1#1) (h10 : ¬ k0_cond10 i = 1#1) (h11 : k0_cond11 i = 1#1) (h12 : ¬ k0_cond12 i = 1#1) (h13 : k0_cond13 i = 1#1) (h14 : ¬ k0_cond14 i = 1#1) (h15 : k0_cond15 i = 1#1) (h16 : ¬ k0_cond16 i = 1#1) (h17 : k0_cond17 i = 1#1) (h18 : ¬ k0_cond18 i = 1#1) (h19 : k0_cond19 i = 1#1) (h20 : ¬ k0_cond20 i = 1#1) (h21 : k0_cond21 i = 1#1)
    (h : ℕ) (s0 : k0_off1 i 0#32 = ![0, 8 * h + 0, 0]) (s1 : k0_off1 i 1#32 = ![0, 8 * h + 1, 0]) (s2 : k0_off1 i 2#32 = ![0, 8 * h + 2, 0]) (s3 : k0_off1 i 3#32 = ![0, 8 * h + 3, 0]) (s4 : k0_off1 i 4#32 = ![0, 8 * h + 4, 0]) (s5 : k0_off1 i 5#32 = ![0, 8 * h + 5, 0]) (s6 : k0_off1 i 6#32 = ![0, 8 * h + 6, 0]) (s7 : k0_off1 i 7#32 = ![0, 8 * h + 7, 0])
    (o0 : k0_off3 i = ![0, 1024 * h + 0]) (o1 : k0_off5 i = ![0, 1024 * h + 128]) (o2 : k0_off7 i = ![0, 1024 * h + 256]) (o3 : k0_off9 i = ![0, 1024 * h + 384]) (o4 : k0_off11 i = ![0, 1024 * h + 512]) (o5 : k0_off13 i = ![0, 1024 * h + 640]) (o6 : k0_off15 i = ![0, 1024 * h + 768]) (o7 : k0_off17 i = ![0, 1024 * h + 896])
    (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) :
    { L : List (View.Piece (Elt F) S32x2048 .f32) // ∀ (E : Set ℕ) (K : PUnit → sProp 𝕄),
      iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha ∗ owns (c : Thread nD τ) arg9 fullShare o
          ∗ (iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha
              ∗ owns (c : Thread nD τ) arg9 fullShare (arg9.view.read (Elt F) (arg9.view.writes (Elt F) (harg9.unread o) L))) -∗ K ⟨⟩))
        ⊢ wp frame (wpE (defs₀ (F := F)) Variants.none c none) E
            (seg4 i arg2 harg2 arg3 harg3 arg4 harg4 arg5 harg5 arg6 harg6 arg7 harg7 arg8 harg8 arg9 harg9 arg10 harg10 arg11 harg11 k0_h5) K } := by
  refine ⟨?_, fun E K => ?run⟩
  case run =>
    unfold seg4
    letI : ClosedOff (k0_off1 i 0#32) := ⟨![0, 8 * h + 0, 0], s0⟩
    letI : ClosedOff (k0_off1 i 1#32) := ⟨![0, 8 * h + 1, 0], s1⟩
    letI : ClosedOff (k0_off1 i 2#32) := ⟨![0, 8 * h + 2, 0], s2⟩
    letI : ClosedOff (k0_off1 i 3#32) := ⟨![0, 8 * h + 3, 0], s3⟩
    letI : ClosedOff (k0_off1 i 4#32) := ⟨![0, 8 * h + 4, 0], s4⟩
    letI : ClosedOff (k0_off1 i 5#32) := ⟨![0, 8 * h + 5, 0], s5⟩
    letI : ClosedOff (k0_off1 i 6#32) := ⟨![0, 8 * h + 6, 0], s6⟩
    letI : ClosedOff (k0_off1 i 7#32) := ⟨![0, 8 * h + 7, 0], s7⟩
    letI : ClosedOff (k0_off3 i) := ⟨![0, 1024 * h + 0], o0⟩
    letI : ClosedOff (k0_off5 i) := ⟨![0, 1024 * h + 128], o1⟩
    letI : ClosedOff (k0_off7 i) := ⟨![0, 1024 * h + 256], o2⟩
    letI : ClosedOff (k0_off9 i) := ⟨![0, 1024 * h + 384], o3⟩
    letI : ClosedOff (k0_off11 i) := ⟨![0, 1024 * h + 512], o4⟩
    letI : ClosedOff (k0_off13 i) := ⟨![0, 1024 * h + 640], o5⟩
    letI : ClosedOff (k0_off15 i) := ⟨![0, 1024 * h + 768], o6⟩
    letI : ClosedOff (k0_off17 i) := ⟨![0, 1024 * h + 896], o7⟩
    simp only [part20_eq_later (F := F) (i := i) (k0_h5 := k0_h5) (k0_h6 := h6) (k0_h7 := h7), part21_eq_later (F := F) (i := i) (k0_h5 := k0_h5) (k0_h8 := h8) (k0_h9 := h9), part22_eq_later (F := F) (i := i) (k0_h5 := k0_h5) (k0_h10 := h10) (k0_h11 := h11) (k0_h12 := h12) (k0_h13 := h13), part23_eq_later (F := F) (i := i) (k0_h5 := k0_h5) (k0_h14 := h14) (k0_h15 := h15) (k0_h16 := h16), part24_eq_later (F := F) (i := i) (k0_h5 := k0_h5) (k0_h17 := h17) (k0_h18 := h18) (k0_h19 := h19), dif_neg h20, dif_pos h21]
    simp only [part20Later, part21Later, part22Later, part23Later, part24Later]
    unfold owns
    iintro ⟨⟨%f5, %hf5, H5⟩, ⟨%f6, %hf6, H6⟩, ⟨%f7, %hf7, H7⟩, ⟨%f8, %hf8, H8⟩, ⟨%f11, %hf11, H11⟩, ⟨%f9, %hf9, H9⟩, Hk⟩
    obtain rfl := harg5.eq_unread hf5; obtain rfl := harg6.eq_unread hf6; obtain rfl := harg7.eq_unread hf7; obtain rfl := harg8.eq_unread hf8; obtain rfl := harg11.eq_unread hf11; obtain rfl := harg9.eq_unread hf9
    sl_exec
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]
    · iexists _; isplitr; · ipureintro; exact harg11.read_unread _
      iexact H11
    iexists _; isplitr; swap; · iexact H9
    ipureintro; rfl

end Cert.KernelIdeal.Hand

end
-- ==== Proof.Point.lean ====
/-
  The grid's points: which phase a point is in, which expert it serves, and what the body's tests and offsets come to there.
-/
module

public import proofs.«01_k».proof.Proof.Root
public import proofs.«01_k».proof.Proof.Gen.KernelIdeal.Launch
public import Idealize.ShloMosaic.Lib.Pipeline.Kit

@[expose] public section

set_option maxRecDepth 16384

noncomputable section

namespace Cert.KernelIdeal.Hand

open Cert.KernelIdeal Cert.KernelIdeal.Gen
open Idealize.ShloMosaic

/-- A point's first coordinate is its expert. -/
theorem coord0 (t : Fin cfg0.N) : (grid0.coords t 0).val = t.val / 6 := by
  have h := Pipeline.Grid.coords_val (G := grid0) t 0 (S := 6) (B := 16) (by decide) (by decide)
  have : t.val < 96 := lt_of_lt_of_eq t.isLt N_0
  omega

/-- A point's second coordinate is its phase. -/
theorem coord1 (t : Fin cfg0.N) : (grid0.coords t 1).val = t.val % 6 := by
  have h := Pipeline.Grid.coords_val (G := grid0) t 1 (S := 1) (B := 6) (by decide) (by decide)
  omega

theorem phase_iff (n : Fin 4) : ∀ x : Fin 6,
    Scalar.cmpi .ne (Scalar.extui (Scalar.cmpi .eq (BitVec.ofNat 32 x.val) (BitVec.ofNat 32 n.val))) 0#32 = 1#1 ↔ x.val = n.val := by
  revert n; decide

/-- The test of phase 0 holds exactly at the points of phase 0; and so on. -/
theorem phase0_iff (i : grid0.Coords) : phase i 0#32 = 1#1 ↔ (i 1).val = 0 := phase_iff 0 (i 1)
theorem phase1_iff (i : grid0.Coords) : phase i 1#32 = 1#1 ↔ (i 1).val = 1 := phase_iff 1 (i 1)
theorem phase2_iff (i : grid0.Coords) : phase i 2#32 = 1#1 ↔ (i 1).val = 2 := phase_iff 2 (i 1)
theorem phase3_iff (i : grid0.Coords) : phase i 3#32 = 1#1 ↔ (i 1).val = 3 := phase_iff 3 (i 1)

theorem four_le_iff : ∀ x : Fin 6,
    Scalar.cmpi .ne (Scalar.extui (Scalar.cmpi .sge (BitVec.ofNat 32 x.val) 4#32)) 0#32 = 1#1 ↔ 4 ≤ x.val := by decide

/-- The test of phases 4 and 5. -/
theorem cond5_iff (i : grid0.Coords) : k0_cond5 i = 1#1 ↔ 4 ≤ (i 1).val := four_le_iff (i 1)

theorem zero_iff : ∀ x : Fin 16,
    Scalar.cmpi .ne (Scalar.extui (Scalar.cmpi .eq (BitVec.ofNat 32 x.val) 0#32)) 0#32 = 1#1 ↔ x.val = 0 := by decide
theorem nonzero_iff : ∀ x : Fin 16,
    Scalar.cmpi .ne (Scalar.extui (Scalar.cmpi .ne (BitVec.ofNat 32 x.val) 0#32)) 0#32 = 1#1 ↔ x.val ≠ 0 := by decide

/-- The tests of expert 0 (even numbers) and of a later expert (odd numbers). -/
theorem cond6_iff (i : grid0.Coords) : k0_cond6 i = 1#1 ↔ (i 0).val = 0 := zero_iff (i 0)
theorem cond7_iff (i : grid0.Coords) : k0_cond7 i = 1#1 ↔ (i 0).val ≠ 0 := nonzero_iff (i 0)
theorem cond8_iff (i : grid0.Coords) : k0_cond8 i = 1#1 ↔ (i 0).val = 0 := zero_iff (i 0)
theorem cond9_iff (i : grid0.Coords) : k0_cond9 i = 1#1 ↔ (i 0).val ≠ 0 := nonzero_iff (i 0)
theorem cond10_iff (i : grid0.Coords) : k0_cond10 i = 1#1 ↔ (i 0).val = 0 := zero_iff (i 0)
theorem cond11_iff (i : grid0.Coords) : k0_cond11 i = 1#1 ↔ (i 0).val ≠ 0 := nonzero_iff (i 0)
theorem cond12_iff (i : grid0.Coords) : k0_cond12 i = 1#1 ↔ (i 0).val = 0 := zero_iff (i 0)
theorem cond13_iff (i : grid0.Coords) : k0_cond13 i = 1#1 ↔ (i 0).val ≠ 0 := nonzero_iff (i 0)
theorem cond14_iff (i : grid0.Coords) : k0_cond14 i = 1#1 ↔ (i 0).val = 0 := zero_iff (i 0)
theorem cond15_iff (i : grid0.Coords) : k0_cond15 i = 1#1 ↔ (i 0).val ≠ 0 := nonzero_iff (i 0)
theorem cond16_iff (i : grid0.Coords) : k0_cond16 i = 1#1 ↔ (i 0).val = 0 := zero_iff (i 0)
theorem cond17_iff (i : grid0.Coords) : k0_cond17 i = 1#1 ↔ (i 0).val ≠ 0 := nonzero_iff (i 0)
theorem cond18_iff (i : grid0.Coords) : k0_cond18 i = 1#1 ↔ (i 0).val = 0 := zero_iff (i 0)
theorem cond19_iff (i : grid0.Coords) : k0_cond19 i = 1#1 ↔ (i 0).val ≠ 0 := nonzero_iff (i 0)
theorem cond20_iff (i : grid0.Coords) : k0_cond20 i = 1#1 ↔ (i 0).val = 0 := zero_iff (i 0)
theorem cond21_iff (i : grid0.Coords) : k0_cond21 i = 1#1 ↔ (i 0).val ≠ 0 := nonzero_iff (i 0)

theorem row_word : ∀ x : Fin 6, 4 ≤ x.val → ∀ d : Fin 8,
    (Scalar.indexCast (Scalar.addi (Scalar.muli (Scalar.subi (BitVec.ofNat 32 x.val) 4#32) 8#32) (BitVec.ofNat 32 d.val))).toNat = 8 * (x.val - 4) + d.val := by
  decide

theorem col_word : ∀ x : Fin 6, 4 ≤ x.val → ∀ d : Fin 8,
    (Scalar.indexCast (Scalar.addi (Scalar.muli (Scalar.subi (BitVec.ofNat 32 x.val) 4#32) 1024#32) (BitVec.ofNat 32 (128 * d.val)))).toNat = 1024 * (x.val - 4) + 128 * d.val := by
  decide

/-- The row of the scales block `d` of a half reads. -/
theorem off1_eq0 (i : grid0.Coords) (h : 4 ≤ (i 1).val) : k0_off1 i 0#32 = ![0, 8 * ((i 1).val - 4) + 0, 0] := by
  have := row_word (i 1) h 0; unfold k0_off1; dsimp only; exact congrArg (fun n => ![0, n, 0]) this
theorem off1_eq1 (i : grid0.Coords) (h : 4 ≤ (i 1).val) : k0_off1 i 1#32 = ![0, 8 * ((i 1).val - 4) + 1, 0] := by
  have := row_word (i 1) h 1; unfold k0_off1; dsimp only; exact congrArg (fun n => ![0, n, 0]) this
theorem off1_eq2 (i : grid0.Coords) (h : 4 ≤ (i 1).val) : k0_off1 i 2#32 = ![0, 8 * ((i 1).val - 4) + 2, 0] := by
  have := row_word (i 1) h 2; unfold k0_off1; dsimp only; exact congrArg (fun n => ![0, n, 0]) this
theorem off1_eq3 (i : grid0.Coords) (h : 4 ≤ (i 1).val) : k0_off1 i 3#32 = ![0, 8 * ((i 1).val - 4) + 3, 0] := by
  have := row_word (i 1) h 3; unfold k0_off1; dsimp only; exact congrArg (fun n => ![0, n, 0]) this
theorem off1_eq4 (i : grid0.Coords) (h : 4 ≤ (i 1).val) : k0_off1 i 4#32 = ![0, 8 * ((i 1).val - 4) + 4, 0] := by
  have := row_word (i 1) h 4; unfold k0_off1; dsimp only; exact congrArg (fun n => ![0, n, 0]) this
theorem off1_eq5 (i : grid0.Coords) (h : 4 ≤ (i 1).val) : k0_off1 i 5#32 = ![0, 8 * ((i 1).val - 4) + 5, 0] := by
  have := row_word (i 1) h 5; unfold k0_off1; dsimp only; exact congrArg (fun n => ![0, n, 0]) this
theorem off1_eq6 (i : grid0.Coords) (h : 4 ≤ (i 1).val) : k0_off1 i 6#32 = ![0, 8 * ((i 1).val - 4) + 6, 0] := by
  have := row_word (i 1) h 6; unfold k0_off1; dsimp only; exact congrArg (fun n => ![0, n, 0]) this
theorem off1_eq7 (i : grid0.Coords) (h : 4 ≤ (i 1).val) : k0_off1 i 7#32 = ![0, 8 * ((i 1).val - 4) + 7, 0] := by
  have := row_word (i 1) h 7; unfold k0_off1; dsimp only; exact congrArg (fun n => ![0, n, 0]) this
/-- The first column of block `d` of a half. -/
theorem off2_eq (i : grid0.Coords) (h : 4 ≤ (i 1).val) : k0_off2 i = ![0, 1024 * ((i 1).val - 4) + 0] := by
  have := col_word (i 1) h 0; unfold k0_off2; dsimp only; exact congrArg (fun n => ![0, n]) this
theorem off3_eq (i : grid0.Coords) (h : 4 ≤ (i 1).val) : k0_off3 i = ![0, 1024 * ((i 1).val - 4) + 0] := by
  have := col_word (i 1) h 0; unfold k0_off3; dsimp only; exact congrArg (fun n => ![0, n]) this
theorem off4_eq (i : grid0.Coords) (h : 4 ≤ (i 1).val) : k0_off4 i = ![0, 1024 * ((i 1).val - 4) + 128] := by
  have := col_word (i 1) h 1; unfold k0_off4; dsimp only; exact congrArg (fun n => ![0, n]) this
theorem off5_eq (i : grid0.Coords) (h : 4 ≤ (i 1).val) : k0_off5 i = ![0, 1024 * ((i 1).val - 4) + 128] := by
  have := col_word (i 1) h 1; unfold k0_off5; dsimp only; exact congrArg (fun n => ![0, n]) this
theorem off6_eq (i : grid0.Coords) (h : 4 ≤ (i 1).val) : k0_off6 i = ![0, 1024 * ((i 1).val - 4) + 256] := by
  have := col_word (i 1) h 2; unfold k0_off6; dsimp only; exact congrArg (fun n => ![0, n]) this
theorem off7_eq (i : grid0.Coords) (h : 4 ≤ (i 1).val) : k0_off7 i = ![0, 1024 * ((i 1).val - 4) + 256] := by
  have := col_word (i 1) h 2; unfold k0_off7; dsimp only; exact congrArg (fun n => ![0, n]) this
theorem off8_eq (i : grid0.Coords) (h : 4 ≤ (i 1).val) : k0_off8 i = ![0, 1024 * ((i 1).val - 4) + 384] := by
  have := col_word (i 1) h 3; unfold k0_off8; dsimp only; exact congrArg (fun n => ![0, n]) this
theorem off9_eq (i : grid0.Coords) (h : 4 ≤ (i 1).val) : k0_off9 i = ![0, 1024 * ((i 1).val - 4) + 384] := by
  have := col_word (i 1) h 3; unfold k0_off9; dsimp only; exact congrArg (fun n => ![0, n]) this
theorem off10_eq (i : grid0.Coords) (h : 4 ≤ (i 1).val) : k0_off10 i = ![0, 1024 * ((i 1).val - 4) + 512] := by
  have := col_word (i 1) h 4; unfold k0_off10; dsimp only; exact congrArg (fun n => ![0, n]) this
theorem off11_eq (i : grid0.Coords) (h : 4 ≤ (i 1).val) : k0_off11 i = ![0, 1024 * ((i 1).val - 4) + 512] := by
  have := col_word (i 1) h 4; unfold k0_off11; dsimp only; exact congrArg (fun n => ![0, n]) this
theorem off12_eq (i : grid0.Coords) (h : 4 ≤ (i 1).val) : k0_off12 i = ![0, 1024 * ((i 1).val - 4) + 640] := by
  have := col_word (i 1) h 5; unfold k0_off12; dsimp only; exact congrArg (fun n => ![0, n]) this
theorem off13_eq (i : grid0.Coords) (h : 4 ≤ (i 1).val) : k0_off13 i = ![0, 1024 * ((i 1).val - 4) + 640] := by
  have := col_word (i 1) h 5; unfold k0_off13; dsimp only; exact congrArg (fun n => ![0, n]) this
theorem off14_eq (i : grid0.Coords) (h : 4 ≤ (i 1).val) : k0_off14 i = ![0, 1024 * ((i 1).val - 4) + 768] := by
  have := col_word (i 1) h 6; unfold k0_off14; dsimp only; exact congrArg (fun n => ![0, n]) this
theorem off15_eq (i : grid0.Coords) (h : 4 ≤ (i 1).val) : k0_off15 i = ![0, 1024 * ((i 1).val - 4) + 768] := by
  have := col_word (i 1) h 6; unfold k0_off15; dsimp only; exact congrArg (fun n => ![0, n]) this
theorem off16_eq (i : grid0.Coords) (h : 4 ≤ (i 1).val) : k0_off16 i = ![0, 1024 * ((i 1).val - 4) + 896] := by
  have := col_word (i 1) h 7; unfold k0_off16; dsimp only; exact congrArg (fun n => ![0, n]) this
theorem off17_eq (i : grid0.Coords) (h : 4 ≤ (i 1).val) : k0_off17 i = ![0, 1024 * ((i 1).val - 4) + 896] := by
  have := col_word (i 1) h 7; unfold k0_off17; dsimp only; exact congrArg (fun n => ![0, n]) this

end Cert.KernelIdeal.Hand

end
-- ==== Proof.Bodies.lean ====
/-
  The fused kernel's body at a point, by the point's phase: what it leaves in the buffer it stores to, given what it was handed.
-/
module

public import proofs.«01_k».proof.Proof.Gen.KernelIdeal.Frame
public import proofs.«01_k».proof.Proof.Run0
public import proofs.«01_k».proof.Proof.Run1
public import proofs.«01_k».proof.Proof.Run2
public import proofs.«01_k».proof.Proof.Run3
public import proofs.«01_k».proof.Proof.Run4First
public import proofs.«01_k».proof.Proof.Run4Later
public import proofs.«01_k».proof.Proof.Point
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body leaves in the first scratch at a point of phase 0. -/
def left0 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 0) (x : S32x2048.Idx → Elt F .f32) (w : S1x1408x1024.Idx → Elt F .f32) (s : S1x22x16.Idx → Elt F .f32) (hg : S32x1408.Idx → Elt F .f32) : S32x1408.Idx → Elt F .f32 :=
  arg10.view.read (Elt F) (arg10.view.writes (Elt F) (harg10.unread hg)
    (run0 c i arg2 harg2 arg3 harg3 arg4 harg4 arg5 harg5 arg6 harg6 arg7 harg7 arg8 harg8 arg9 harg9 arg10 harg10 arg11 harg11  x w s hg).1)

/-- The body there: it hands back what it read and leaves `left0`. -/
theorem body0 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 0) (x : S32x2048.Idx → Elt F .f32) (w : S1x1408x1024.Idx → Elt F .f32) (s : S1x22x16.Idx → Elt F .f32) (hg : S32x1408.Idx → Elt F .f32) (E : Set ℕ) (K : PUnit → sProp 𝕄) :
    iprop(owns (c : Thread nD τ) arg2 fullShare x ∗ owns (c : Thread nD τ) arg3 fullShare w ∗ owns (c : Thread nD τ) arg4 fullShare s ∗ owns (c : Thread nD τ) arg10 fullShare hg
        ∗ (iprop(owns (c : Thread nD τ) arg2 fullShare x ∗ owns (c : Thread nD τ) arg3 fullShare w ∗ owns (c : Thread nD τ) arg4 fullShare s
            ∗ owns (c : Thread nD τ) arg10 fullShare (left0 c i arg2 harg2 arg3 harg3 arg4 harg4 arg5 harg5 arg6 harg6 arg7 harg7 arg8 harg8 arg9 harg9 arg10 harg10 arg11 harg11 hp x w s hg)) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11) K := by
  rw [fused_phase0 i arg2 harg2 arg3 harg3 arg4 harg4 arg5 harg5 arg6 harg6 arg7 harg7 arg8 harg8 arg9 harg9 arg10 harg10 arg11 harg11 ((phase0_iff i).2 hp) (fun h => by have := (phase1_iff i).1 h; omega) (fun h => by have := (phase2_iff i).1 h; omega) (fun h => by have := (phase3_iff i).1 h; omega) (fun h => by have := (cond5_iff i).1 h; omega)]
  exact (run0 c i arg2 harg2 arg3 harg3 arg4 harg4 arg5 harg5 arg6 harg6 arg7 harg7 arg8 harg8 arg9 harg9 arg10 harg10 arg11 harg11  x w s hg).2 E K

/-- What the body leaves in the first scratch at a point of phase 1. -/
def left1 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 1) (x : S32x2048.Idx → Elt F .f32) (w : S1x1408x1024.Idx → Elt F .f32) (s : S1x22x16.Idx → Elt F .f32) (hg : S32x1408.Idx → Elt F .f32) : S32x1408.Idx → Elt F .f32 :=
  arg10.view.read (Elt F) (arg10.view.writes (Elt F) (harg10.unread hg)
    (run1 c i arg2 harg2 arg3 harg3 arg4 harg4 arg5 harg5 arg6 harg6 arg7 harg7 arg8 harg8 arg9 harg9 arg10 harg10 arg11 harg11  x w s hg).1)

/-- The body there: it hands back what it read and leaves `left1`. -/
theorem body1 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 1) (x : S32x2048.Idx → Elt F .f32) (w : S1x1408x1024.Idx → Elt F .f32) (s : S1x22x16.Idx → Elt F .f32) (hg : S32x1408.Idx → Elt F .f32) (E : Set ℕ) (K : PUnit → sProp 𝕄) :
    iprop(owns (c : Thread nD τ) arg2 fullShare x ∗ owns (c : Thread nD τ) arg3 fullShare w ∗ owns (c : Thread nD τ) arg4 fullShare s ∗ owns (c : Thread nD τ) arg10 fullShare hg
        ∗ (iprop(owns (c : Thread nD τ) arg2 fullShare x ∗ owns (c : Thread nD τ) arg3 fullShare w ∗ owns (c : Thread nD τ) arg4 fullShare s
            ∗ owns (c : Thread nD τ) arg10 fullShare (left1 c i arg2 harg2 arg3 harg3 arg4 harg4 arg5 harg5 arg6 harg6 arg7 harg7 arg8 harg8 arg9 harg9 arg10 harg10 arg11 harg11 hp x w s hg)) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11) K := by
  rw [fused_phase1 i arg2 harg2 arg3 harg3 arg4 harg4 arg5 harg5 arg6 harg6 arg7 harg7 arg8 harg8 arg9 harg9 arg10 harg10 arg11 harg11 (fun h => by have := (phase0_iff i).1 h; omega) ((phase1_iff i).2 hp) (fun h => by have := (phase2_iff i).1 h; omega) (fun h => by have := (phase3_iff i).1 h; omega) (fun h => by have := (cond5_iff i).1 h; omega)]
  exact (run1 c i arg2 harg2 arg3 harg3 arg4 harg4 arg5 harg5 arg6 harg6 arg7 harg7 arg8 harg8 arg9 harg9 arg10 harg10 arg11 harg11  x w s hg).2 E K

/-- What the body leaves in the second scratch at a point of phase 2. -/
def left2 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 2) (x : S32x2048.Idx → Elt F .f32) (w : S1x1408x1024.Idx → Elt F .f32) (s : S1x22x16.Idx → Elt F .f32) (ha : S32x1408.Idx → Elt F .f32) : S32x1408.Idx → Elt F .f32 :=
  arg11.view.read (Elt F) (arg11.view.writes (Elt F) (harg11.unread ha)
    (run2 c i arg2 harg2 arg3 harg3 arg4 harg4 arg5 harg5 arg6 harg6 arg7 harg7 arg8 harg8 arg9 harg9 arg10 harg10 arg11 harg11  x w s ha).1)

/-- The body there: it hands back what it read and leaves `left2`. -/
theorem body2 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 2) (x : S32x2048.Idx → Elt F .f32) (w : S1x1408x1024.Idx → Elt F .f32) (s : S1x22x16.Idx → Elt F .f32) (ha : S32x1408.Idx → Elt F .f32) (E : Set ℕ) (K : PUnit → sProp 𝕄) :
    iprop(owns (c : Thread nD τ) arg2 fullShare x ∗ owns (c : Thread nD τ) arg3 fullShare w ∗ owns (c : Thread nD τ) arg4 fullShare s ∗ owns (c : Thread nD τ) arg11 fullShare ha
        ∗ (iprop(owns (c : Thread nD τ) arg2 fullShare x ∗ owns (c : Thread nD τ) arg3 fullShare w ∗ owns (c : Thread nD τ) arg4 fullShare s
            ∗ owns (c : Thread nD τ) arg11 fullShare (left2 c i arg2 harg2 arg3 harg3 arg4 harg4 arg5 harg5 arg6 harg6 arg7 harg7 arg8 harg8 arg9 harg9 arg10 harg10 arg11 harg11 hp x w s ha)) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11) K := by
  rw [fused_phase2 i arg2 harg2 arg3 harg3 arg4 harg4 arg5 harg5 arg6 harg6 arg7 harg7 arg8 harg8 arg9 harg9 arg10 harg10 arg11 harg11 (fun h => by have := (phase0_iff i).1 h; omega) (fun h => by have := (phase1_iff i).1 h; omega) ((phase2_iff i).2 hp) (fun h => by have := (phase3_iff i).1 h; omega) (fun h => by have := (cond5_iff i).1 h; omega)]
  exact (run2 c i arg2 harg2 arg3 harg3 arg4 harg4 arg5 harg5 arg6 harg6 arg7 harg7 arg8 harg8 arg9 harg9 arg10 harg10 arg11 harg11  x w s ha).2 E K

/-- What the body leaves in the second scratch at a point of phase 3. -/
def left3 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 3) (x : S32x2048.Idx → Elt F .f32) (w : S1x1408x1024.Idx → Elt F .f32) (s : S1x22x16.Idx → Elt F .f32) (hg : S32x1408.Idx → Elt F .f32) (ha : S32x1408.Idx → Elt F .f32) : S32x1408.Idx → Elt F .f32 :=
  arg11.view.read (Elt F) (arg11.view.writes (Elt F) (harg11.unread ha)
    (run3 c i arg2 harg2 arg3 harg3 arg4 harg4 arg5 harg5 arg6 harg6 arg7 harg7 arg8 harg8 arg9 harg9 arg10 harg10 arg11 harg11  x w s hg ha).1)

/-- The body there: it hands back what it read and leaves `left3`. -/
theorem body3 (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : (i 1).val = 3) (x : S32x2048.Idx → Elt F .f32) (w : S1x1408x1024.Idx → Elt F .f32) (s : S1x22x16.Idx → Elt F .f32) (hg : S32x1408.Idx → Elt F .f32) (ha : S32x1408.Idx → Elt F .f32) (E : Set ℕ) (K : PUnit → sProp 𝕄) :
    iprop(owns (c : Thread nD τ) arg2 fullShare x ∗ owns (c : Thread nD τ) arg3 fullShare w ∗ owns (c : Thread nD τ) arg4 fullShare s ∗ owns (c : Thread nD τ) arg10 fullShare hg ∗ owns (c : Thread nD τ) arg11 fullShare ha
        ∗ (iprop(owns (c : Thread nD τ) arg2 fullShare x ∗ owns (c : Thread nD τ) arg3 fullShare w ∗ owns (c : Thread nD τ) arg4 fullShare s ∗ owns (c : Thread nD τ) arg10 fullShare hg
            ∗ owns (c : Thread nD τ) arg11 fullShare (left3 c i arg2 harg2 arg3 harg3 arg4 harg4 arg5 harg5 arg6 harg6 arg7 harg7 arg8 harg8 arg9 harg9 arg10 harg10 arg11 harg11 hp x w s hg ha)) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11) K := by
  rw [fused_phase3 i arg2 harg2 arg3 harg3 arg4 harg4 arg5 harg5 arg6 harg6 arg7 harg7 arg8 harg8 arg9 harg9 arg10 harg10 arg11 harg11 (fun h => by have := (phase0_iff i).1 h; omega) (fun h => by have := (phase1_iff i).1 h; omega) (fun h => by have := (phase2_iff i).1 h; omega) ((phase3_iff i).2 hp) (fun h => by have := (cond5_iff i).1 h; omega)]
  exact (run3 c i arg2 harg2 arg3 harg3 arg4 harg4 arg5 harg5 arg6 harg6 arg7 harg7 arg8 harg8 arg9 harg9 arg10 harg10 arg11 harg11  x w s hg ha).2 E K

/-- What the body leaves in the output block at a point of phase 4 or 5 of expert 0. -/
def left4First (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : 4 ≤ (i 1).val) (he : (i 0).val = 0) (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) : S32x2048.Idx → Elt F .f32 :=
  arg9.view.read (Elt F) (arg9.view.writes (Elt F) (harg9.unread o)
    (run4First c i arg2 harg2 arg3 harg3 arg4 harg4 arg5 harg5 arg6 harg6 arg7 harg7 arg8 harg8 arg9 harg9 arg10 harg10 arg11 harg11 ((cond5_iff i).2 hp) ((cond6_iff i).2 he) (fun h => (cond7_iff i).1 h he) ((cond8_iff i).2 he) (fun h => (cond9_iff i).1 h he) ((cond10_iff i).2 he) (fun h => (cond11_iff i).1 h he) ((cond12_iff i).2 he) (fun h => (cond13_iff i).1 h he) ((cond14_iff i).2 he) (fun h => (cond15_iff i).1 h he) ((cond16_iff i).2 he) (fun h => (cond17_iff i).1 h he) ((cond18_iff i).2 he) (fun h => (cond19_iff i).1 h he) ((cond20_iff i).2 he) (fun h => (cond21_iff i).1 h he) ((i 1).val - 4) (off1_eq0 i hp) (off1_eq1 i hp) (off1_eq2 i hp) (off1_eq3 i hp) (off1_eq4 i hp) (off1_eq5 i hp) (off1_eq6 i hp) (off1_eq7 i hp) (off2_eq i hp) (off4_eq i hp) (off6_eq i hp) (off8_eq i hp) (off10_eq i hp) (off12_eq i hp) (off14_eq i hp) (off16_eq i hp) wd sd ids wt ha o).1)

/-- The body there: it hands back what it read and leaves `left4First`. -/
theorem body4First (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : 4 ≤ (i 1).val) (he : (i 0).val = 0) (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) (E : Set ℕ) (K : PUnit → sProp 𝕄) :
    iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha ∗ owns (c : Thread nD τ) arg9 fullShare o
        ∗ (iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha
            ∗ owns (c : Thread nD τ) arg9 fullShare (left4First c i arg2 harg2 arg3 harg3 arg4 harg4 arg5 harg5 arg6 harg6 arg7 harg7 arg8 harg8 arg9 harg9 arg10 harg10 arg11 harg11 hp he wd sd ids wt ha o)) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11) K := by
  rw [fused_phase4 i arg2 harg2 arg3 harg3 arg4 harg4 arg5 harg5 arg6 harg6 arg7 harg7 arg8 harg8 arg9 harg9 arg10 harg10 arg11 harg11 (fun h => by have := (phase0_iff i).1 h; omega) (fun h => by have := (phase1_iff i).1 h; omega) (fun h => by have := (phase2_iff i).1 h; omega) (fun h => by have := (phase3_iff i).1 h; omega) ((cond5_iff i).2 hp)]
  exact (run4First c i arg2 harg2 arg3 harg3 arg4 harg4 arg5 harg5 arg6 harg6 arg7 harg7 arg8 harg8 arg9 harg9 arg10 harg10 arg11 harg11 ((cond5_iff i).2 hp) ((cond6_iff i).2 he) (fun h => (cond7_iff i).1 h he) ((cond8_iff i).2 he) (fun h => (cond9_iff i).1 h he) ((cond10_iff i).2 he) (fun h => (cond11_iff i).1 h he) ((cond12_iff i).2 he) (fun h => (cond13_iff i).1 h he) ((cond14_iff i).2 he) (fun h => (cond15_iff i).1 h he) ((cond16_iff i).2 he) (fun h => (cond17_iff i).1 h he) ((cond18_iff i).2 he) (fun h => (cond19_iff i).1 h he) ((cond20_iff i).2 he) (fun h => (cond21_iff i).1 h he) ((i 1).val - 4) (off1_eq0 i hp) (off1_eq1 i hp) (off1_eq2 i hp) (off1_eq3 i hp) (off1_eq4 i hp) (off1_eq5 i hp) (off1_eq6 i hp) (off1_eq7 i hp) (off2_eq i hp) (off4_eq i hp) (off6_eq i hp) (off8_eq i hp) (off10_eq i hp) (off12_eq i hp) (off14_eq i hp) (off16_eq i hp) wd sd ids wt ha o).2 E K

/-- What the body leaves in the output block at a point of phase 4 or 5 of a later expert. -/
def left4Later (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : 4 ≤ (i 1).val) (he : (i 0).val ≠ 0) (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) : S32x2048.Idx → Elt F .f32 :=
  arg9.view.read (Elt F) (arg9.view.writes (Elt F) (harg9.unread o)
    (run4Later c i arg2 harg2 arg3 harg3 arg4 harg4 arg5 harg5 arg6 harg6 arg7 harg7 arg8 harg8 arg9 harg9 arg10 harg10 arg11 harg11 ((cond5_iff i).2 hp) (fun h => he ((cond6_iff i).1 h)) ((cond7_iff i).2 he) (fun h => he ((cond8_iff i).1 h)) ((cond9_iff i).2 he) (fun h => he ((cond10_iff i).1 h)) ((cond11_iff i).2 he) (fun h => he ((cond12_iff i).1 h)) ((cond13_iff i).2 he) (fun h => he ((cond14_iff i).1 h)) ((cond15_iff i).2 he) (fun h => he ((cond16_iff i).1 h)) ((cond17_iff i).2 he) (fun h => he ((cond18_iff i).1 h)) ((cond19_iff i).2 he) (fun h => he ((cond20_iff i).1 h)) ((cond21_iff i).2 he) ((i 1).val - 4) (off1_eq0 i hp) (off1_eq1 i hp) (off1_eq2 i hp) (off1_eq3 i hp) (off1_eq4 i hp) (off1_eq5 i hp) (off1_eq6 i hp) (off1_eq7 i hp) (off3_eq i hp) (off5_eq i hp) (off7_eq i hp) (off9_eq i hp) (off11_eq i hp) (off13_eq i hp) (off15_eq i hp) (off17_eq i hp) wd sd ids wt ha o).1)

/-- The body there: it hands back what it read and leaves `left4Later`. -/
theorem body4Later (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)
    (hp : 4 ≤ (i 1).val) (he : (i 0).val ≠ 0) (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) (E : Set ℕ) (K : PUnit → sProp 𝕄) :
    iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha ∗ owns (c : Thread nD τ) arg9 fullShare o
        ∗ (iprop(owns (c : Thread nD τ) arg5 fullShare wd ∗ owns (c : Thread nD τ) arg6 fullShare sd ∗ owns (c : Thread nD τ) arg7 fullShare ids ∗ owns (c : Thread nD τ) arg8 fullShare wt ∗ owns (c : Thread nD τ) arg11 fullShare ha
            ∗ owns (c : Thread nD τ) arg9 fullShare (left4Later c i arg2 harg2 arg3 harg3 arg4 harg4 arg5 harg5 arg6 harg6 arg7 harg7 arg8 harg8 arg9 harg9 arg10 harg10 arg11 harg11 hp he wd sd ids wt ha o)) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11) K := by
  rw [fused_phase4 i arg2 harg2 arg3 harg3 arg4 harg4 arg5 harg5 arg6 harg6 arg7 harg7 arg8 harg8 arg9 harg9 arg10 harg10 arg11 harg11 (fun h => by have := (phase0_iff i).1 h; omega) (fun h => by have := (phase1_iff i).1 h; omega) (fun h => by have := (phase2_iff i).1 h; omega) (fun h => by have := (phase3_iff i).1 h; omega) ((cond5_iff i).2 hp)]
  exact (run4Later c i arg2 harg2 arg3 harg3 arg4 harg4 arg5 harg5 arg6 harg6 arg7 harg7 arg8 harg8 arg9 harg9 arg10 harg10 arg11 harg11 ((cond5_iff i).2 hp) (fun h => he ((cond6_iff i).1 h)) ((cond7_iff i).2 he) (fun h => he ((cond8_iff i).1 h)) ((cond9_iff i).2 he) (fun h => he ((cond10_iff i).1 h)) ((cond11_iff i).2 he) (fun h => he ((cond12_iff i).1 h)) ((cond13_iff i).2 he) (fun h => he ((cond14_iff i).1 h)) ((cond15_iff i).2 he) (fun h => he ((cond16_iff i).1 h)) ((cond17_iff i).2 he) (fun h => he ((cond18_iff i).1 h)) ((cond19_iff i).2 he) (fun h => he ((cond20_iff i).1 h)) ((cond21_iff i).2 he) ((i 1).val - 4) (off1_eq0 i hp) (off1_eq1 i hp) (off1_eq2 i hp) (off1_eq3 i hp) (off1_eq4 i hp) (off1_eq5 i hp) (off1_eq6 i hp) (off1_eq7 i hp) (off3_eq i hp) (off5_eq i hp) (off7_eq i hp) (off9_eq i hp) (off11_eq i hp) (off13_eq i hp) (off15_eq i hp) (off17_eq i hp) wd sd ids wt ha o).2 E K

end Cert.KernelIdeal.Hand

end
-- ==== Proof.Track.lean ====
/-
  The launch of the fused kernel, tracking what its two scratches hold from point to point and how a point changes the output
  block: for any properties the body keeps, every run ends with the arrays as those properties allow.
-/
module

public import proofs.«01_k».proof.Proof.Gen.KernelIdeal.Frame
public import proofs.«01_k».proof.Proof.Bodies
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of a scratch. -/
abbrev Scr (F : FTy → Type) := S32x1408.Idx → Elt F .f32
/-- The contents of the output block. -/
abbrev Out (F : FTy → Type) := S32x2048.Idx → Elt F .f32

variable (T : Dev nD → ℕ → Scr F → Scr F → Prop) (B : Dev nD → ℕ → Out F → Out F → Prop)

/-- The body keeps the properties: `T c n` of the two scratches before point `n`, `B c n` of the output block as point `n` finds
    it and as it leaves it. -/
structure Keeps : Prop where
  start : ∀ c g a, T c 0 g a
  same : ∀ c (t : Fin cfg0.N) (hp : (grid0.coords t 1).val < 4) Y, B c t.val Y Y
  p0 : ∀ c (t : Fin cfg0.N) (hp : (grid0.coords t 1).val = 0) g a, T c t.val g a →
    T c (t.val + 1) (left0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) g) a
  p1 : ∀ c (t : Fin cfg0.N) (hp : (grid0.coords t 1).val = 1) g a, T c t.val g a →
    T c (t.val + 1) (left1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) g) a
  p2 : ∀ c (t : Fin cfg0.N) (hp : (grid0.coords t 1).val = 2) g a, T c t.val g a →
    T c (t.val + 1) g (left2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) a)
  p3 : ∀ c (t : Fin cfg0.N) (hp : (grid0.coords t 1).val = 3) g a, T c t.val g a →
    T c (t.val + 1) g (left3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) g a)
  p4First : ∀ c (t : Fin cfg0.N) (hp : 4 ≤ (grid0.coords t 1).val) (he : (grid0.coords t 0).val = 0) g a Y, T c t.val g a →
    T c (t.val + 1) g a ∧ B c t.val Y (left4First c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp he (iblk m c 3 t) (iblk m c 4 t) (iblk m c 5 t) (iblk m c 6 t) a Y)
  p4Later : ∀ c (t : Fin cfg0.N) (hp : 4 ≤ (grid0.coords t 1).val) (he : (grid0.coords t 0).val ≠ 0) g a Y, T c t.val g a →
    T c (t.val + 1) g a ∧ B c t.val Y (left4Later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp he (iblk m c 3 t) (iblk m c 4 t) (iblk m c 5 t) (iblk m c 6 t) a Y)

/-- What the body may leave in each window's staging buffer: an input as found, the output as `B` relates. -/
def leaves (c : Dev nD) : (w : Fin 8) → Fin cfg0.N → (Y X : (cfg0.win w).block.Idx → Elt F (cfg0.win w).elt) → Prop
  | 0 => fun _ Y X => X = Y | 1 => fun _ Y X => X = Y | 2 => fun _ Y X => X = Y | 3 => fun _ Y X => X = Y
  | 4 => fun _ Y X => X = Y | 5 => fun _ Y X => X = Y | 6 => fun _ Y X => X = Y
  | 7 => fun t Y X => B c t.val Y X

/-- The two scratches before point `n`, at contents that `T` holds of. -/
def scratches (c : Dev nD) (n : ℕ) : sProp 𝕄 :=
  iprop(∃ g, ∃ a, ⌜T c n g a⌝ ∗ owns (c : Thread nD τ) (Memref.whole cc0_scratch0) fullShare g
    ∗ owns (c : Thread nD τ) (Memref.whole cc0_scratch1) fullShare a)

/-- The launch's data on core `c`. -/
def rdat (c : Dev nD) : RDat τ (Elt F) Unit ℕ (UR sig nD τ) ℕ cfg0 c where
  A w := V m c (Pipeline.arrRef spec0 w)
  after := leaves B c
  Φ n := iprop(scratches T c n.val ∗ ∃ r, prngReg c r)
  q _ := fullShare
  owed _ := 0

/-- Input window 0's buffer holds its block at every point. -/
theorem finds0 (c : Dev nD) (t : Fin cfg0.N) (Y) (h : (rdat m T B c).Finds 0 t Y) : Y = iblk m c 0 t := by
  obtain ⟨d, hd⟩ := (rdat m T B c).finds_in_eq_fetched 0 rfl (fun _ _ _ => rfl) (fun _ _ _ h => h) t Y h
  rw [hd]; rfl
/-- Input window 1's buffer holds its block at every point. -/
theorem finds1 (c : Dev nD) (t : Fin cfg0.N) (Y) (h : (rdat m T B c).Finds 1 t Y) : Y = iblk m c 1 t := by
  obtain ⟨d, hd⟩ := (rdat m T B c).finds_in_eq_fetched 1 rfl (fun _ _ _ => rfl) (fun _ _ _ h => h) t Y h
  rw [hd]; rfl
/-- Input window 2's buffer holds its block at every point. -/
theorem finds2 (c : Dev nD) (t : Fin cfg0.N) (Y) (h : (rdat m T B c).Finds 2 t Y) : Y = iblk m c 2 t := by
  obtain ⟨d, hd⟩ := (rdat m T B c).finds_in_eq_fetched 2 rfl (fun _ _ _ => rfl) (fun _ _ _ h => h) t Y h
  rw [hd]; rfl
/-- Input window 3's buffer holds its block at every point. -/
theorem finds3 (c : Dev nD) (t : Fin cfg0.N) (Y) (h : (rdat m T B c).Finds 3 t Y) : Y = iblk m c 3 t := by
  obtain ⟨d, hd⟩ := (rdat m T B c).finds_in_eq_fetched 3 rfl (fun _ _ _ => rfl) (fun _ _ _ h => h) t Y h
  rw [hd]; rfl
/-- Input window 4's buffer holds its block at every point. -/
theorem finds4 (c : Dev nD) (t : Fin cfg0.N) (Y) (h : (rdat m T B c).Finds 4 t Y) : Y = iblk m c 4 t := by
  obtain ⟨d, hd⟩ := (rdat m T B c).finds_in_eq_fetched 4 rfl (fun _ _ _ => rfl) (fun _ _ _ h => h) t Y h
  rw [hd]; rfl
/-- Input window 5's buffer holds its block at every point. -/
theorem finds5 (c : Dev nD) (t : Fin cfg0.N) (Y) (h : (rdat m T B c).Finds 5 t Y) : Y = iblk m c 5 t := by
  obtain ⟨d, hd⟩ := (rdat m T B c).finds_in_eq_fetched 5 rfl (fun _ _ _ => rfl) (fun _ _ _ h => h) t Y h
  rw [hd]; rfl
/-- Input window 6's buffer holds its block at every point. -/
theorem finds6 (c : Dev nD) (t : Fin cfg0.N) (Y) (h : (rdat m T B c).Finds 6 t Y) : Y = iblk m c 6 t := by
  obtain ⟨d, hd⟩ := (rdat m T B c).finds_in_eq_fetched 6 rfl (fun _ _ _ => rfl) (fun _ _ _ h => h) t Y h
  rw [hd]; rfl

/-- The body at a point: from the scratches, the windows' buffers at contents they may hold, it runs to the next point's. -/
theorem body_point (K : Keeps m T B) (c : Dev nD) (t : Fin cfg0.N)
    (Y7 : S32x2048.Idx → Elt F .f32) (Φ : PUnit → sProp 𝕄) :
    iprop(scratches T c t.val
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare Y7
        ∗ (iprop(scratches T c (t.val + 1)
          ∗ owns (c : Thread nD τ) (st0_0 t) fullShare (iblk m c 0 t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ owns (c : Thread nD τ) (st0_4 t) fullShare (iblk m c 4 t) ∗ owns (c : Thread nD τ) (st0_5 t) fullShare (iblk m c 5 t)
          ∗ owns (c : Thread nD τ) (st0_6 t) fullShare (iblk m c 6 t)
          ∗ ∃ X7, ⌜B c t.val Y7 X7⌝ ∗ owns (c : Thread nD τ) (st0_7 t) fullShare X7) -∗ Φ ⟨⟩))
      ⊢ wp frame (wpE (defs₀ (F := F)) Variants.none c none) Set.univ (bodyAt0 t) Φ := by
  unfold scratches bodyAt0
  have hlt : (grid0.coords t 1).val < 6 := (grid0.coords t 1).isLt
  iintro ⟨⟨%g, %a, %hT, Hg, Ha⟩, H0, H1, H2, H3, H4, H5, H6, H7, Hk⟩
  by_cases hp : (grid0.coords t 1).val = 0
  · iapply (body0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) g Set.univ Φ)
    isplitl [H0]; · iexact H0
    isplitl [H1]; · iexact H1
    isplitl [H2]; · iexact H2
    isplitl [Hg]; · iexact Hg
    iintro ⟨H0, H1, H2, Hg⟩
    iapply Hk
    isplitl [Hg Ha]
    · iexists _, a
      isplitr; · ipureintro; exact K.p0 c t hp g a hT
      isplitl [Hg]; · iexact Hg
      iexact Ha
    isplitl [H0]; · iexact H0
    isplitl [H1]; · iexact H1
    isplitl [H2]; · iexact H2
    isplitl [H3]; · iexact H3
    isplitl [H4]; · iexact H4
    isplitl [H5]; · iexact H5
    isplitl [H6]; · iexact H6
    iexists Y7
    isplitr; · ipureintro; exact K.same c t (by omega) Y7
    iexact H7
  have hn0 := hp; clear hp
  by_cases hp : (grid0.coords t 1).val = 1
  · iapply (body1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) g Set.univ Φ)
    isplitl [H0]; · iexact H0
    isplitl [H1]; · iexact H1
    isplitl [H2]; · iexact H2
    isplitl [Hg]; · iexact Hg
    iintro ⟨H0, H1, H2, Hg⟩
    iapply Hk
    isplitl [Hg Ha]
    · iexists _, a
      isplitr; · ipureintro; exact K.p1 c t hp g a hT
      isplitl [Hg]; · iexact Hg
      iexact Ha
    isplitl [H0]; · iexact H0
    isplitl [H1]; · iexact H1
    isplitl [H2]; · iexact H2
    isplitl [H3]; · iexact H3
    isplitl [H4]; · iexact H4
    isplitl [H5]; · iexact H5
    isplitl [H6]; · iexact H6
    iexists Y7
    isplitr; · ipureintro; exact K.same c t (by omega) Y7
    iexact H7
  have hn1 := hp; clear hp
  by_cases hp : (grid0.coords t 1).val = 2
  · iapply (body2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) a Set.univ Φ)
    isplitl [H0]; · iexact H0
    isplitl [H1]; · iexact H1
    isplitl [H2]; · iexact H2
    isplitl [Ha]; · iexact Ha
    iintro ⟨H0, H1, H2, Ha⟩
    iapply Hk
    isplitl [Hg Ha]
    · iexists g, _
      isplitr; · ipureintro; exact K.p2 c t hp g a hT
      isplitl [Hg]; · iexact Hg
      iexact Ha
    isplitl [H0]; · iexact H0
    isplitl [H1]; · iexact H1
    isplitl [H2]; · iexact H2
    isplitl [H3]; · iexact H3
    isplitl [H4]; · iexact H4
    isplitl [H5]; · iexact H5
    isplitl [H6]; · iexact H6
    iexists Y7
    isplitr; · ipureintro; exact K.same c t (by omega) Y7
    iexact H7
  have hn2 := hp; clear hp
  by_cases hp : (grid0.coords t 1).val = 3
  · iapply (body3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp (iblk m c 0 t) (iblk m c 1 t) (iblk m c 2 t) g a Set.univ Φ)
    isplitl [H0]; · iexact H0
    isplitl [H1]; · iexact H1
    isplitl [H2]; · iexact H2
    isplitl [Hg]; · iexact Hg
    isplitl [Ha]; · iexact Ha
    iintro ⟨H0, H1, H2, Hg, Ha⟩
    iapply Hk
    isplitl [Hg Ha]
    · iexists g, _
      isplitr; · ipureintro; exact K.p3 c t hp g a hT
      isplitl [Hg]; · iexact Hg
      iexact Ha
    isplitl [H0]; · iexact H0
    isplitl [H1]; · iexact H1
    isplitl [H2]; · iexact H2
    isplitl [H3]; · iexact H3
    isplitl [H4]; · iexact H4
    isplitl [H5]; · iexact H5
    isplitl [H6]; · iexact H6
    iexists Y7
    isplitr; · ipureintro; exact K.same c t (by omega) Y7
    iexact H7
  have hn3 := hp; clear hp
  have hp : 4 ≤ (grid0.coords t 1).val := by omega
  by_cases he : (grid0.coords t 0).val = 0
  · iapply (body4First c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp he (iblk m c 3 t) (iblk m c 4 t) (iblk m c 5 t) (iblk m c 6 t) a Y7 Set.univ Φ)
    isplitl [H3]; · iexact H3
    isplitl [H4]; · iexact H4
    isplitl [H5]; · iexact H5
    isplitl [H6]; · iexact H6
    isplitl [Ha]; · iexact Ha
    isplitl [H7]; · iexact H7
    iintro ⟨H3, H4, H5, H6, Ha, H7⟩
    iapply Hk
    isplitl [Hg Ha]
    · iexists g, a
      isplitr; · ipureintro; exact (K.p4First c t hp he g a Y7 hT).1
      isplitl [Hg]; · iexact Hg
      iexact Ha
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _
    isplitr; · ipureintro; exact (K.p4First c t hp he g a Y7 hT).2
    iexact H7
  · iapply (body4Later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hp he (iblk m c 3 t) (iblk m c 4 t) (iblk m c 5 t) (iblk m c 6 t) a Y7 Set.univ Φ)
    isplitl [H3]; · iexact H3
    isplitl [H4]; · iexact H4
    isplitl [H5]; · iexact H5
    isplitl [H6]; · iexact H6
    isplitl [Ha]; · iexact Ha
    isplitl [H7]; · iexact H7
    iintro ⟨H3, H4, H5, H6, Ha, H7⟩
    iapply Hk
    isplitl [Hg Ha]
    · iexists g, a
      isplitr; · ipureintro; exact (K.p4Later c t hp he g a Y7 hT).1
      isplitl [Hg]; · iexact Hg
      iexact Ha
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _
    isplitr; · ipureintro; exact (K.p4Later c t hp he g a Y7 hT).2
    iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation of this data. -/
theorem body_obligation (K : Keeps m T B) (c : Dev nD) :
    (rdat m T B c).BodyObligation (defs₀ (F := F)) Variants.none () Set.univ := fun t Y hY => by
  have h0 := finds0 m T B c t _ (hY 0)
  have h1 := finds1 m T B c t _ (hY 1)
  have h2 := finds2 m T B c t _ (hY 2)
  have h3 := finds3 m T B c t _ (hY 3)
  have h4 := finds4 m T B c t _ (hY 4)
  have h5 := finds5 m T B c t _ (hY 5)
  have h6 := finds6 m T B c t _ (hY 6)
  rw [bigSep_W0, bigSep_W0, defs₀_row]
  rw [h0, h1, h2, h3, h4, h5, h6]
  have hΦ : ∀ n : Fin (cfg0.N + 1), (rdat m T B c).Φ n = iprop(scratches T c n.val ∗ ∃ r, prngReg c r) := fun _ => rfl
  rw [hΦ, hΦ, show (rdat m T B c).owesAt () t.succ = (rdat m T B c).owesAt () t.castSucc from rfl,
    Fin.val_castSucc, Fin.val_succ]
  iintro ⟨⟨HS, Hp⟩, HO, H0, H1, H2, H3, H4, H5, H6, H7⟩
  iapply (body_point m T B K c t (Y 7) _)
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨HS, H0, H1, H2, H3, H4, H5, H6, ⟨%X7, %hB, H7⟩⟩
  isplitl [HS Hp]
  · isplitl [HS]; · iexact HS
    iexact Hp
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  iexists X7; isplitr; · ipureintro; exact hB
  iexact H7

-- the theorem's implicit arguments are found by unifying its conclusion with this statement, which unifies only
-- when unification may unfold plain definitions in a metavariable's type
set_option backward.isDefEq.respectTransparency.types false in
/-- From any memory with zero counters every run of @main terminates, and ends with every windowed array at contents the
    tracked properties allow. -/
theorem run_main (K : Keeps m T B) :
    θ_run defs (onTc (τ := τ) (main (F := F))) (s₀ m ρ)
      (fun r => Pipeline.RDat.FramePost (cfgs 0) (fun c => rdat m T B c) (V m) r ∧ r.2.sem = fun _ => 0) :=
  Pipeline.RDat.θ_run_frame_track (Q' := _) cfgs (0 : Fin 1) launch0 defs₀ Variants.none (rdat m T B) m ρ main
    (hbody := body_obligation m T B K) (hshare := fun c w => by unfold Pipeline.RDat.share; split <;> rfl)
    (howed := fun _ _ => rfl) (V := V m) (hmain := hmain m Variants.none) (hA := fun _ _ => rfl)
    (hin := fun c => by
      show Pipeline.ΦA spec0 c ⊢ iprop(scratches T c 0 ∗ ∃ r, prngReg c r)
      unfold Pipeline.ΦA scratches; rw [scopedRest0_eq]
      simp only [owns_whole]
      iintro ⟨⟨⟨%f0, H0⟩, ⟨%f1, H1⟩⟩, Hp⟩
      isplitl [H0 H1]
      · iexists f0, f1
        isplitr; · ipureintro; exact K.start c _ _
        isplitl [H0]; · iexact H0
        iexact H1
      iexact Hp)
    (hout := fun c => by
      show iprop(scratches T c _ ∗ ∃ r, prngReg c r) ⊢ Pipeline.ΦA spec0 c
      unfold Pipeline.ΦA scratches; rw [scopedRest0_eq]
      simp only [owns_whole]
      iintro ⟨⟨%g, %a, -, H0, H1⟩, Hp⟩
      isplitl [H0 H1]
      · isplitl [H0]; · iexists g; iexact H0
        iexists a; iexact H1
      iexact Hp)

end Cert.KernelIdeal.Hand

end
-- ==== Proof.Frame.lean ====
/-
  What a launch leaves in memory: the argument arrays as they were, and in the result array what the body may leave in the output
  block at the last point. The output block is carried from point to point, so a property the points keep holds of the result.
-/
module

public import proofs.«01_k».proof.Proof.Track
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (RDat)

variable {F : FTy → Type} [FloatOps F]
variable (m : (ℓ : Loc nD τ sig) → Buf (Elt F) ℓ) (ρ : Dev nD → PrngReg)
variable (T : Dev nD → ℕ → Scr F → Scr F → Prop) (B : Dev nD → ℕ → Out F → Out F → Prop)

/-- The argument arrays end as they began. -/
theorem args_kept {r : PUnit × MemSt nD τ sig (Elt F)}
    (h : RDat.FramePost (cfgs 0) (fun c => rdat m T B c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨h.arr_in c 0 rfl, h.arr_in c 6 rfl, h.arr_in c 5 rfl, h.arr_in c 1 rfl, h.arr_in c 2 rfl, h.arr_in c 3 rfl, h.arr_in c 4 rfl⟩

/-- The properties that say nothing are kept. -/
theorem keeps_nothing : Keeps m (fun _ _ _ _ => True) (fun _ _ _ _ => True) :=
  ⟨fun _ _ _ => trivial, fun _ _ _ _ => trivial, fun _ _ _ _ _ _ => trivial, fun _ _ _ _ _ _ => trivial,
    fun _ _ _ _ _ _ => trivial, fun _ _ _ _ _ _ => trivial, fun _ _ _ _ _ _ _ _ => ⟨trivial, trivial⟩,
    fun _ _ _ _ _ _ _ _ => ⟨trivial, trivial⟩⟩

/-- Every run ends with the argument arrays unchanged and every counter at zero. -/
theorem frame_run :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_kept m _ _ h.1 c, h.2⟩) (run_main m ρ _ _ (keeps_nothing m))

/-- The output block is never fetched. -/
theorem fetch_out (t : Fin cfg0.N) : (cfg0.win 7).fetch t = false := rfl

/-- A property of the output block that holds of any block before the first point and that each point's change keeps holds of
    whatever the body may leave there. -/
theorem leaves_keeps (c : Dev nD) (P : ℕ → Out F → Prop) (h0 : ∀ Y, P 0 Y)
    (hs : ∀ (t : Fin cfg0.N) Y X, B c t.val Y X → P t.val Y → P (t.val + 1) X) :
    ∀ (n : ℕ) (hn : n < cfg0.N) (X : Out F), (rdat m T B c).Leaves 7 ⟨n, hn⟩ X → P (n + 1) X := by
  intro n
  induction n with
  | zero => rintro hn X ⟨Y, -, hY⟩; exact hs ⟨0, hn⟩ Y X hY (h0 Y)
  | succ n ih =>
    rintro hn X ⟨Y, hF, hY⟩
    refine hs ⟨n + 1, hn⟩ Y X hY ?_
    rcases ((rdat m T B c).finds_of_pos (w := 7) (t := ⟨n + 1, hn⟩) (fetch_out _) (Nat.succ_ne_zero n) Y).mp hF with hfl | hl
    · have e := (flush0_7 ⟨n, Nat.lt_of_succ_lt hn⟩).mp hfl
      have hN : n + 1 < 96 := hn
      have e' : n % 96 = 95 := e
      omega
    · exact ih (Nat.lt_of_succ_lt hn) Y hl

/-- The output array is written back whole, at the last point. -/
theorem out_whole : (cfg0.win 7).WholeAt ⟨95, by decide⟩ := by decide +kernel

/-- Such a property holds of the result array. -/
theorem result_keeps {r : PUnit × MemSt nD τ sig (Elt F)} (h : RDat.FramePost (cfgs 0) (fun c => rdat m T B c) (V m) r)
    (c : Dev nD) (P : ℕ → Out F → Prop) (h0 : ∀ Y, P 0 Y)
    (hs : ∀ (t : Fin cfg0.N) Y X, B c t.val Y X → P t.val Y → P (t.val + 1) X) :
    P 96 (r.2.mem ((c.tc : Thread nD τ).loc main_v0)) := by
  obtain ⟨X, hX, hG⟩ := RDat.ArrAt.emb_eq_of_wholeAt ((h c).1 7) out_whole
  have e : (r.2.mem ((c.tc : Thread nD τ).loc main_v0) : Out F) = X := funext fun j => hG j
  rw [e]
  exact leaves_keeps m T B c P h0 hs 95 (by decide) X hX

end Cert.KernelIdeal.Hand

end
-- ==== Proof.Value.Block.lean ====
/-
  What one block product of the kernel computes: the rows of a hidden array, scaled by a row of block scales, against the rows of a block of weights.
-/
module

public import proofs.«01_k».proof.Proof.Root
public import Idealize.ShloMosaic.Lib.Pointwise
public import Idealize.ShloMosaic.Lib.MatmulPlain
public import Idealize.ShloMosaic.Lib.Pipeline.Value

@[expose] public section

set_option maxRecDepth 16384

noncomputable section

namespace Cert.KernelIdeal.Hand

open Cert.KernelIdeal Cert.KernelIdeal.Gen
open Idealize.ShloMosaic

section
variable {F : FTy → Type} [FloatOps F]

/-- A row of 8 block scales, each repeated 128 times, over 32 rows. -/
def spread8 (s : Vec F S1x1x8 .f32) : FVec F S32x1024 .f32 :=
  broadcastTo S32x1024 (shapeCast S1x1024 (broadcastTo S8x128 (shapeCast S8x1 (shapeCast S8 s shapeCasts_S1x1x8_S8) shapeCasts_S8_S8x1) broadcasts_S8x1_S8x128) shapeCasts_S8x128_S1x1024) broadcasts_S1x1024_S32x1024

/-- A row of 11 block scales, each repeated 128 times, over 32 rows. -/
def spread11 (s : Vec F S1x1x11 .f32) : FVec F S32x1408 .f32 :=
  broadcastTo S32x1408 (shapeCast S1x1408 (broadcastTo S11x128 (shapeCast S11x1 (shapeCast S11 s shapeCasts_S1x1x11_S11) shapeCasts_S11_S11x1) broadcasts_S11x1_S11x128) shapeCasts_S11x128_S1x1408) broadcasts_S1x1408_S32x1408

/-- A block of 128 columns of a half of the gate or up product. -/
def blk (x : Vec F S32x1024 .f32) (s : Vec F S1x1x8 .f32) (w : Vec F S1x128x1024 .f32) : FVec F S32x128 .f32 :=
  matmul dot_S32x1024_S128x1024_S32x128_1_1_0_0_n_n none (mulf x (spread8 s)) (shapeCast S128x1024 w shapeCasts_S1x128x1024_S128x1024) (constant S32x128 .f32 0x00000000#32)

/-- A block of 128 columns of the down product. -/
def dblk (a : Vec F S32x1408 .f32) (s : Vec F S1x1x11 .f32) (w : Vec F S1x128x1408 .f32) : FVec F S32x128 .f32 :=
  matmul dot_S32x1408_S128x1408_S32x128_1_1_0_0_n_n none (mulf a (spread11 s)) (shapeCast S128x1408 w shapeCasts_S1x128x1408_S128x1408) (constant S32x128 .f32 0x00000000#32)

/-- A scale row of eight, spread over its blocks, at a column. -/
theorem spread8_apply (s : Vec F S1x1x8 .f32) (r : Fin 32) (k : Fin 1024) :
    spread8 s (ix2 r k) = s (ix3 0 0 ⟨k.val / 128, by omega⟩) := by
  unfold spread8
  pointwise

/-- A scale row of eleven, spread over its blocks, at a column. -/
theorem spread11_apply (s : Vec F S1x1x11 .f32) (r : Fin 32) (k : Fin 1408) :
    spread11 s (ix2 r k) = s (ix3 0 0 ⟨k.val / 128, by omega⟩) := by
  unfold spread11
  pointwise
end

/-- The two spellings of a pair index agree. -/
theorem pair_ix2 {m n : Nat} (a : Fin m) (b : Fin n) : ValueIdx.ix2 a b = ix2 a b := eq_ix2 _

/-- The block product at a row and a column. -/
theorem blk_apply (x : Vec Ideal S32x1024 .f32) (s : Vec Ideal S1x1x8 .f32) (w : Vec Ideal S1x128x1024 .f32) (r : Fin 32) (j : Fin 128) :
    blk x s w (ix2 r j) = ∑ k : Fin 1024, (x (ix2 r k) * s (ix3 0 0 ⟨k.val / 128, by omega⟩)) * w (ix3 0 j k) := by
  unfold blk
  refine (Ideal.matmul_transposedRhs_apply (M := 32) (K := 1024) (N := 128) none _ _ _ r j).trans ?_
  simp only [pair_ix2]
  have h0 : constant (F := Ideal) S32x128 .f32 0x00000000#32 (ix2 r j) = (0 : EReal) := Ideal.ofBits_zero_f32
  rw [h0, zero_add]
  refine Finset.sum_congr rfl fun k _ => ?_
  have e1 : mulf x (spread8 s) (ix2 r k) = x (ix2 r k) * spread8 s (ix2 r k) := rfl
  have e2 : shapeCast S128x1024 w shapeCasts_S1x128x1024_S128x1024 (ix2 j k) = w (ix3 0 j k) := by pointwise
  rw [e1, e2, spread8_apply]

/-- The down block product at a row and a column. -/
theorem dblk_apply (a : Vec Ideal S32x1408 .f32) (s : Vec Ideal S1x1x11 .f32) (w : Vec Ideal S1x128x1408 .f32) (r : Fin 32) (j : Fin 128) :
    dblk a s w (ix2 r j) = ∑ k : Fin 1408, (a (ix2 r k) * s (ix3 0 0 ⟨k.val / 128, by omega⟩)) * w (ix3 0 j k) := by
  unfold dblk
  refine (Ideal.matmul_transposedRhs_apply (M := 32) (K := 1408) (N := 128) none _ _ _ r j).trans ?_
  simp only [pair_ix2]
  have h0 : constant (F := Ideal) S32x128 .f32 0x00000000#32 (ix2 r j) = (0 : EReal) := Ideal.ofBits_zero_f32
  rw [h0, zero_add]
  refine Finset.sum_congr rfl fun k _ => ?_
  have e1 : mulf a (spread11 s) (ix2 r k) = a (ix2 r k) * spread11 s (ix2 r k) := rfl
  have e2 : shapeCast S128x1408 w shapeCasts_S1x128x1408_S128x1408 (ix2 j k) = w (ix3 0 j k) := by pointwise
  rw [e1, e2, spread11_apply]

end Cert.KernelIdeal.Hand

end
-- ==== Proof.Value.Cols.lean ====
/-
  A list of column-block stores read back: which block an element lies in, and that it reads what was stored there.
-/
module

public import proofs.«01_k».proof.Proof.Value.Block
public import Idealize.ShloMosaic.Lib.Writes
public import Idealize.ShloMosaic.Lib.WritesUnit
public import Idealize.ShloMosaic.Lib.WholeRead
public import Idealize.ShloMosaic.Lib.Pipeline.ValueKit.Tiles
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic

/-- Block `j` of 128 columns lies in a 32 by 1408 array. -/
theorem inbCols (j : Fin 11) : ∀ a, (![0, 128 * j.val] : Fin 2 → ℕ) a + S32x128.size a ≤ S32x1408.size a := by
  revert j; decide

/-- The 11 column blocks, last first. -/
def blocks11 : List (Fin 11) := [10, 9, 8, 7, 6, 5, 4, 3, 2, 1, 0]

/-- Eleven stores, one per block of 128 columns, read at an element: what the store of its block put there. -/
theorem cols_read {Val : EltTy → Type} {sig : RefSig} {κ : Kind} {sp : Space} (v : View sig κ sp S32x1408 .f32) (f : v.ty.Contents Val)
    (P : Fin 11 → S32x128.Idx → Val .f32) (r : Fin 32) (q : Fin 1408) :
    v.read Val (v.writes Val f (blocks11.map fun j => (⟨Rect.unit ![0, 128 * j.val] S32x128.size (inbCols j), P j⟩ : View.Piece Val S32x1408 .f32))) (ix2 r q)
      = P ⟨q.val / 128, by omega⟩ (ix2 r ⟨q.val % 128, by omega⟩) := by
  refine View.read_writes_apply_of_pieces v f
    (fun y => P ⟨(y 1).val / 128, by have : (y 1).val < 1408 := (y 1).isLt; omega⟩ (ix2 ⟨(y 0).val, (y 0).isLt⟩ ⟨(y 1).val % 128, by omega⟩)) _ ?_ (ix2 r q) ?_
  · intro p hp x
    obtain ⟨j, -, rfl⟩ := List.mem_map.1 hp
    have x1 : (x 1).val < 128 := (x 1).isLt
    have h0 : ((Rect.unit (s := S32x1408) ![0, 128 * j.val] S32x128.size (inbCols j)).emb x 0).val = (x 0).val := by
      rw [ValueKit.rect_emb_unit_val]; exact Nat.zero_add _
    have h1 : ((Rect.unit (s := S32x1408) ![0, 128 * j.val] S32x128.size (inbCols j)).emb x 1).val = 128 * j.val + (x 1).val := by
      rw [ValueKit.rect_emb_unit_val]; rfl
    show P j x = P _ _
    congr 1
    · apply Fin.ext; show j.val = _ / 128; rw [h1]; omega
    · refine (eq_ix2 (n0 := 32) (n1 := 128) x).trans ?_
      congr 1
      · exact Fin.ext h0.symm
      · apply Fin.ext; show (x 1).val = _ % 128; rw [h1]; omega
  · refine ⟨_, List.mem_map.2 ⟨⟨q.val / 128, by omega⟩, ?_, rfl⟩, ?_⟩
    · generalize (⟨q.val / 128, _⟩ : Fin 11) = j
      revert j; decide
    · show _ ∈ (Rect.unit (s := S32x1408) _ _ (inbCols _)).set
      rw [Rect.mem_set_unit]
      intro a
      match a with
      | ⟨0, _⟩ => exact ⟨Nat.zero_le _, by show r.val < 0 + 32; omega⟩
      | ⟨1, _⟩ => exact ⟨by show 128 * (q.val / 128) ≤ q.val; omega, by show q.val < 128 * (q.val / 128) + 128; omega⟩

/-- The 8 output blocks of a half, last first. -/
def blocks8 : List (Fin 8) := [7, 6, 5, 4, 3, 2, 1, 0]

/-- Eight stores, one per block of 128 columns of a half of the output, read at an element of that half. -/
theorem half_read {Val : EltTy → Type} {sig : RefSig} {κ : Kind} {sp : Space} (v : View sig κ sp S32x2048 .f32) (f : v.ty.Contents Val)
    (h : ℕ) (off : Fin 8 → Fin 2 → ℕ) (ho : ∀ d, off d = ![0, 1024 * h + 128 * d.val]) (inb : ∀ d a, off d a + S32x128.size a ≤ S32x2048.size a)
    (P : Fin 8 → S32x128.Idx → Val .f32) (r : Fin 32) (q : Fin 2048) (hq : q.val / 1024 = h) :
    v.read Val (v.writes Val f (blocks8.map fun d => (⟨Rect.unit (off d) S32x128.size (inb d), P d⟩ : View.Piece Val S32x2048 .f32))) (ix2 r q)
      = P ⟨q.val % 1024 / 128, by omega⟩ (ix2 r ⟨q.val % 128, by omega⟩) := by
  refine View.read_writes_apply_of_pieces v f
    (fun y => P ⟨(y 1).val % 1024 / 128, by omega⟩ (ix2 ⟨(y 0).val, (y 0).isLt⟩ ⟨(y 1).val % 128, by omega⟩)) _ ?_ (ix2 r q) ?_
  · intro p hp x
    obtain ⟨d, -, rfl⟩ := List.mem_map.1 hp
    have x1 : (x 1).val < 128 := (x 1).isLt
    have h0 : ((Rect.unit (s := S32x2048) (off d) S32x128.size (inb d)).emb x 0).val = (x 0).val := by
      rw [ValueKit.rect_emb_unit_val, congrFun (ho d) 0]; exact Nat.zero_add _
    have h1 : ((Rect.unit (s := S32x2048) (off d) S32x128.size (inb d)).emb x 1).val = 1024 * h + 128 * d.val + (x 1).val := by
      rw [ValueKit.rect_emb_unit_val, congrFun (ho d) 1]; rfl
    show P d x = P _ _
    congr 1
    · apply Fin.ext; show d.val = _ % 1024 / 128; rw [h1]; omega
    · refine (eq_ix2 (n0 := 32) (n1 := 128) x).trans ?_
      congr 1
      · exact Fin.ext h0.symm
      · apply Fin.ext; show (x 1).val = _ % 128; rw [h1]; omega
  · refine ⟨_, List.mem_map.2 ⟨⟨q.val % 1024 / 128, by omega⟩, ?_, rfl⟩, ?_⟩
    · generalize (⟨q.val % 1024 / 128, _⟩ : Fin 8) = j
      revert j; decide
    · show _ ∈ (Rect.unit (s := S32x2048) _ _ (inb _)).set
      rw [Rect.mem_set_unit]
      intro a
      rw [congrFun (ho _) a]
      match a with
      | ⟨0, _⟩ => exact ⟨Nat.zero_le _, by show r.val < 0 + 32; omega⟩
      | ⟨1, _⟩ => exact ⟨by show 1024 * h + 128 * (q.val % 1024 / 128) ≤ q.val; omega, by show q.val < 1024 * h + 128 * (q.val % 1024 / 128) + 128; omega⟩

/-- The same stores read at an element of the other half: what was there before. -/
theorem half_kept {Val : EltTy → Type} {sig : RefSig} {κ : Kind} {sp : Space} (v : View sig κ sp S32x2048 .f32) (f : v.ty.Contents Val)
    (h : ℕ) (off : Fin 8 → Fin 2 → ℕ) (ho : ∀ d, off d = ![0, 1024 * h + 128 * d.val]) (inb : ∀ d a, off d a + S32x128.size a ≤ S32x2048.size a)
    (P : Fin 8 → S32x128.Idx → Val .f32) (r : Fin 32) (q : Fin 2048) (hq : q.val / 1024 ≠ h) :
    v.read Val (v.writes Val f (blocks8.map fun d => (⟨Rect.unit (off d) S32x128.size (inb d), P d⟩ : View.Piece Val S32x2048 .f32))) (ix2 r q)
      = v.read Val f (ix2 r q) := by
  refine View.read_writes_apply_of_forall_not_mem v f (ix2 r q) _ fun p hp hm => ?_
  obtain ⟨d, -, rfl⟩ := List.mem_map.1 hp
  replace hm : _ ∈ (Rect.unit (s := S32x2048) (off d) S32x128.size (inb d)).set := hm
  have hm := Rect.mem_set_unit.1 hm 1
  rw [congrFun (ho d) 1] at hm
  have a : 1024 * h + 128 * d.val ≤ q.val := hm.1
  have b : q.val < 1024 * h + 128 * d.val + 128 := hm.2
  omega

section
variable {Val : EltTy → Type} {sig : RefSig} {κ : Kind} {sp : Space} {e : EltTy}

/-- A unit-stride load of a whole buffer that reads `X`: at `x`, `X` at the offsets plus `x`. -/
theorem load_at {s : Shape} {m : Memref sig κ sp s e} (h : m.IsWhole) (X : s.Idx → Val e) (off size : Fin s.rank → ℕ) (inb : ∀ a, off a + size a ≤ s.size a)
    (x : (Rect.unit off size inb).shape.Idx) (i : s.Idx) (hi : ∀ a, (i a).val = off a + (x a).val) :
    View.readAt Val m.view (Rect.unit off size inb).toLoadRect (h.unread X) x = X i := by
  rw [h.readAt_unread]
  exact congrArg X (funext fun a => Fin.ext ((ValueKit.rect_emb_unit_val off size inb x a).trans (hi a).symm))
end

end Cert.KernelIdeal.Hand

end
-- ==== Proof.Value.Pieces.lean ====
/-
  The scratch arrays after a gate or up phase, as lists of block stores and at an element.
-/
module

public import proofs.«01_k».proof.Proof.Value.Cols
public import proofs.«01_k».proof.Proof.Bodies

@[expose] public section

set_option maxRecDepth 16384

noncomputable section

namespace Cert.KernelIdeal.Hand

open Cert.KernelIdeal Cert.KernelIdeal.Gen
open Idealize.ShloMosaic

/-- The scale row of block `j`, the eight columns from `8 * h`, lies in the 22 by 16 scales; rows `o` on. -/
theorem inbScale (o h : ℕ) (ho : o ≤ 11) (hh : h ≤ 1) (j : Fin 11) : ∀ a, (![0, o + j.val, 8 * h] : Fin 3 → ℕ) a + S1x1x8.size a ≤ S1x22x16.size a := by
  intro a
  match a with
  | ⟨0, _⟩ => exact Nat.le_refl 1
  | ⟨1, _⟩ => show o + j.val + 1 ≤ 22; omega
  | ⟨2, _⟩ => show 8 * h + 8 ≤ 16; omega

/-- The weight rows of block `j` lie in the 1408 by 1024 block. -/
theorem inbRows (j : Fin 11) : ∀ a, (![0, 128 * j.val, 0] : Fin 3 → ℕ) a + S1x128x1024.size a ≤ S1x1408x1024.size a := by
  revert j; decide

/-- A half of the columns of the hidden rows lies in them. -/
theorem inbHalf (h : ℕ) (hh : h ≤ 1) : ∀ a, (![0, 1024 * h] : Fin 2 → ℕ) a + S32x1024.size a ≤ S32x2048.size a := by
  intro a
  match a with
  | ⟨0, _⟩ => exact Nat.le_refl 32
  | ⟨1, _⟩ => show 1024 * h + 1024 ≤ 2048; omega

section
variable {F : FTy → Type} [FloatOps F]
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole)

/-- Block `j`'s product over half `h`, from what the buffers hold: scale rows from `o` on. -/
def blkOf (o h : ℕ) (ho : o ≤ 11) (hh : h ≤ 1) (x : S32x2048.Idx → Elt F .f32) (w : S1x1408x1024.Idx → Elt F .f32) (s : S1x22x16.Idx → Elt F .f32) (j : Fin 11) : FVec F S32x128 .f32 :=
  blk (View.readAt (Elt F) arg2.view (Rect.unit (s := S32x2048) ![0, 1024 * h] S32x1024.size (inbHalf h hh)).toLoadRect (harg2.unread x))
    (View.readAt (Elt F) arg4.view (Rect.unit (s := S1x22x16) ![0, o + j.val, 8 * h] S1x1x8.size (inbScale o h ho hh j)).toLoadRect (harg4.unread s))
    (View.readAt (Elt F) arg3.view (Rect.unit (s := S1x1408x1024) ![0, 128 * j.val, 0] S1x128x1024.size (inbRows j)).toLoadRect (harg3.unread w))

/-- Block `j` of a scratch array's columns, loaded. -/
def colOf (arg : Memref sig .tc .vmem S32x1408 .f32) (harg : arg.IsWhole) (g : S32x1408.Idx → Elt F .f32) (j : Fin 11) : FVec F S32x128 .f32 :=
  View.readAt (Elt F) arg.view (Rect.unit (s := S32x1408) ![0, 128 * j.val] S32x128.size (inbCols j)).toLoadRect (harg.unread g)
end

section
variable {F : FTy → Type} [FloatOps F]
    (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)

/-- Phase 0 stores each block's product over the first half. -/
theorem run0_pieces (x : S32x2048.Idx → Elt F .f32) (w : S1x1408x1024.Idx → Elt F .f32) (s : S1x22x16.Idx → Elt F .f32) (hg : S32x1408.Idx → Elt F .f32) :
    (run0 c i arg2 harg2 arg3 harg3 arg4 harg4 arg5 harg5 arg6 harg6 arg7 harg7 arg8 harg8 arg9 harg9 arg10 harg10 arg11 harg11 x w s hg).1 = blocks11.map fun j => (⟨Rect.unit ![0, 128 * j.val] S32x128.size (inbCols j),
      shapeCast S32x128 (blkOf arg2 harg2 arg3 harg3 arg4 harg4 0 0 (by decide) (by decide) x w s j) shapeCasts_S32x128_S32x128⟩ : View.Piece (Elt F) S32x1408 .f32) := rfl

/-- Phase 1 adds each block's product over the second half. -/
theorem run1_pieces (x : S32x2048.Idx → Elt F .f32) (w : S1x1408x1024.Idx → Elt F .f32) (s : S1x22x16.Idx → Elt F .f32) (hg : S32x1408.Idx → Elt F .f32) :
    (run1 c i arg2 harg2 arg3 harg3 arg4 harg4 arg5 harg5 arg6 harg6 arg7 harg7 arg8 harg8 arg9 harg9 arg10 harg10 arg11 harg11 x w s hg).1 = blocks11.map fun j => (⟨Rect.unit ![0, 128 * j.val] S32x128.size (inbCols j),
      shapeCast S32x128 (addf (colOf arg10 harg10 hg j) (blkOf arg2 harg2 arg3 harg3 arg4 harg4 0 1 (by decide) (by decide) x w s j)) shapeCasts_S32x128_S32x128⟩ : View.Piece (Elt F) S32x1408 .f32) := rfl

/-- Phase 2 stores each block's up product over the first half. -/
theorem run2_pieces (x : S32x2048.Idx → Elt F .f32) (w : S1x1408x1024.Idx → Elt F .f32) (s : S1x22x16.Idx → Elt F .f32) (ha : S32x1408.Idx → Elt F .f32) :
    (run2 c i arg2 harg2 arg3 harg3 arg4 harg4 arg5 harg5 arg6 harg6 arg7 harg7 arg8 harg8 arg9 harg9 arg10 harg10 arg11 harg11 x w s ha).1 = blocks11.map fun j => (⟨Rect.unit ![0, 128 * j.val] S32x128.size (inbCols j),
      shapeCast S32x128 (blkOf arg2 harg2 arg3 harg3 arg4 harg4 11 0 (by decide) (by decide) x w s j) shapeCasts_S32x128_S32x128⟩ : View.Piece (Elt F) S32x1408 .f32) := rfl

/-- Phase 3 adds the second half and multiplies by the gate's activation. -/
theorem run3_pieces (x : S32x2048.Idx → Elt F .f32) (w : S1x1408x1024.Idx → Elt F .f32) (s : S1x22x16.Idx → Elt F .f32) (hg ha : S32x1408.Idx → Elt F .f32) :
    (run3 c i arg2 harg2 arg3 harg3 arg4 harg4 arg5 harg5 arg6 harg6 arg7 harg7 arg8 harg8 arg9 harg9 arg10 harg10 arg11 harg11 x w s hg ha).1 = blocks11.map fun j => (⟨Rect.unit ![0, 128 * j.val] S32x128.size (inbCols j),
      shapeCast S32x128 (mulf (mulf (colOf arg10 harg10 hg j) (logistic (colOf arg10 harg10 hg j)))
        (addf (colOf arg11 harg11 ha j) (blkOf arg2 harg2 arg3 harg3 arg4 harg4 11 1 (by decide) (by decide) x w s j))) shapeCasts_S32x128_S32x128⟩ : View.Piece (Elt F) S32x1408 .f32) := rfl
end

end Cert.KernelIdeal.Hand

end
-- ==== Proof.Value.OutPieces.lean ====
/-
  The output block after a down phase, as lists of block stores: of the first expert, and of a later one.
-/
module

public import proofs.«01_k».proof.Proof.Value.Cols
public import proofs.«01_k».proof.Proof.Bodies

@[expose] public section

set_option maxRecDepth 16384

noncomputable section

namespace Cert.KernelIdeal.Hand

open Cert.KernelIdeal Cert.KernelIdeal.Gen
open Idealize.ShloMosaic

/-- Where the first expert stores output block `d`. -/
def offFirst (i : grid0.Coords) (d : Fin 8) : Fin 2 → ℕ :=
  match d with
  | 0 => k0_off2 i
  | 1 => k0_off4 i
  | 2 => k0_off6 i
  | 3 => k0_off8 i
  | 4 => k0_off10 i
  | 5 => k0_off12 i
  | 6 => k0_off14 i
  | 7 => k0_off16 i

/-- Where a later expert stores output block `d`. -/
def offLater (i : grid0.Coords) (d : Fin 8) : Fin 2 → ℕ :=
  match d with
  | 0 => k0_off3 i
  | 1 => k0_off5 i
  | 2 => k0_off7 i
  | 3 => k0_off9 i
  | 4 => k0_off11 i
  | 5 => k0_off13 i
  | 6 => k0_off15 i
  | 7 => k0_off17 i

/-- Where the first expert's down phase puts each column block. -/
theorem offFirst_eq (i : grid0.Coords) (h : 4 ≤ (i 1).val) : ∀ d : Fin 8, offFirst i d = ![0, 1024 * ((i 1).val - 4) + 128 * d.val]
  | 0 => off2_eq i h
  | 1 => off4_eq i h
  | 2 => off6_eq i h
  | 3 => off8_eq i h
  | 4 => off10_eq i h
  | 5 => off12_eq i h
  | 6 => off14_eq i h
  | 7 => off16_eq i h

/-- Where a later expert's down phase puts each column block. -/
theorem offLater_eq (i : grid0.Coords) (h : 4 ≤ (i 1).val) : ∀ d : Fin 8, offLater i d = ![0, 1024 * ((i 1).val - 4) + 128 * d.val]
  | 0 => off3_eq i h
  | 1 => off5_eq i h
  | 2 => off7_eq i h
  | 3 => off9_eq i h
  | 4 => off11_eq i h
  | 5 => off13_eq i h
  | 6 => off15_eq i h
  | 7 => off17_eq i h

/-- The row of down scales of output block `d`. -/
theorem rowScale_eq (i : grid0.Coords) (h : 4 ≤ (i 1).val) : ∀ d : Fin 8, k0_off1 i (BitVec.ofNat 32 d.val) = ![0, 8 * ((i 1).val - 4) + d.val, 0]
  | 0 => off1_eq0 i h
  | 1 => off1_eq1 i h
  | 2 => off1_eq2 i h
  | 3 => off1_eq3 i h
  | 4 => off1_eq4 i h
  | 5 => off1_eq5 i h
  | 6 => off1_eq6 i h
  | 7 => off1_eq7 i h

/-- Each such column block lies inside the output block. -/
theorem inbOut (i : grid0.Coords) (off : Fin 8 → Fin 2 → ℕ) (ho : ∀ d : Fin 8, off d = ![0, 1024 * ((i 1).val - 4) + 128 * d.val]) (d : Fin 8) :
    ∀ a, off d a + S32x128.size a ≤ S32x2048.size a := by
  have i1 : (i 1).val < 6 := (i 1).isLt
  intro a
  rw [ho]
  match a with
  | ⟨0, _⟩ => exact Nat.le_refl 32
  | ⟨1, _⟩ => show 1024 * ((i 1).val - 4) + 128 * d.val + 128 ≤ 2048; omega

/-- Each down scale row lies inside its block. -/
theorem inbRowScale (i : grid0.Coords) (h : 4 ≤ (i 1).val) (d : Fin 8) : ∀ a, k0_off1 i (BitVec.ofNat 32 d.val) a + S1x1x11.size a ≤ S1x16x11.size a := by
  have i1 : (i 1).val < 6 := (i 1).isLt
  intro a
  rw [rowScale_eq i h]
  match a with
  | ⟨0, _⟩ => exact Nat.le_refl 1
  | ⟨1, _⟩ => show 8 * ((i 1).val - 4) + d.val + 1 ≤ 16; omega
  | ⟨2, _⟩ => exact Nat.le_refl 11

/-- The down weight rows of block `d` lie in the 1024 by 1408 block. -/
theorem inbDown (d : Fin 8) : ∀ a, (![0, 128 * d.val, 0] : Fin 3 → ℕ) a + S1x128x1408.size a ≤ S1x1024x1408.size a := by
  revert d; decide

section
variable {F : FTy → Type} [FloatOps F] (i : grid0.Coords)
    (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg11 : Memref sig .tc .vmem S32x1408 .f32) (harg11 : arg11.IsWhole)

/-- The activations times the expert's routing weight per row, from what the buffers hold. -/
def actOf (ids : S32x2.Idx → Elt F .i32) (wt : S32x2.Idx → Elt F .f32) (ha : S32x1408.Idx → Elt F .f32) : FVec F S32x1408 .f32 :=
  k0_pay65 (BitVec.ofNat 32 (i 0).val)
    (View.readAt (Elt F) arg7.view (Rect.unit (s := S32x2) ![0, 0] S32x2.size inb_S32x2_S32x2_0_0).toLoadRect (harg7.unread ids))
    (View.readAt (Elt F) arg8.view (Rect.unit (s := S32x2) ![0, 0] S32x2.size inb_S32x2_S32x2_0_0).toLoadRect (harg8.unread wt))
    (View.readAt (Elt F) arg11.view (Rect.unit (s := S32x1408) ![0, 0] S32x1408.size inb_S32x1408_S32x1408_0_0).toLoadRect (harg11.unread ha))

/-- Output block `d`'s product, from what the buffers hold. -/
def dblkOf (hp : 4 ≤ (i 1).val) (wd : S1x1024x1408.Idx → Elt F .f32) (sd : S1x16x11.Idx → Elt F .f32) (ids : S32x2.Idx → Elt F .i32) (wt : S32x2.Idx → Elt F .f32) (ha : S32x1408.Idx → Elt F .f32) (d : Fin 8) : FVec F S32x128 .f32 :=
  dblk (actOf i arg7 harg7 arg8 harg8 arg11 harg11 ids wt ha)
    (View.readAt (Elt F) arg6.view (Rect.unit (s := S1x16x11) (k0_off1 i (BitVec.ofNat 32 d.val)) S1x1x11.size (inbRowScale i hp d)).toLoadRect (harg6.unread sd))
    (View.readAt (Elt F) arg5.view (Rect.unit (s := S1x1024x1408) ![0, 128 * d.val, 0] S1x128x1408.size (inbDown d)).toLoadRect (harg5.unread wd))
end

section
variable {F : FTy → Type} [FloatOps F]
    (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)

/-- The first expert's down phase stores each block's product. -/
theorem left4First_pieces (hp : 4 ≤ (i 1).val) (he : (i 0).val = 0) (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) :
    left4First c i arg2 harg2 arg3 harg3 arg4 harg4 arg5 harg5 arg6 harg6 arg7 harg7 arg8 harg8 arg9 harg9 arg10 harg10 arg11 harg11 hp he wd sd ids wt ha o = arg9.view.read (Elt F) (arg9.view.writes (Elt F) (harg9.unread o)
      (blocks8.map fun d => (⟨Rect.unit (offFirst i d) S32x128.size (inbOut i _ (offFirst_eq i hp) d),
        dblkOf i arg5 harg5 arg6 harg6 arg7 harg7 arg8 harg8 arg11 harg11 hp wd sd ids wt ha d⟩ : View.Piece (Elt F) S32x2048 .f32))) := rfl

/-- A later expert's down phase adds each block's product to what was there. -/
theorem left4Later_pieces (hp : 4 ≤ (i 1).val) (he : (i 0).val ≠ 0) (wd : S1x1024x1408.Idx → Elt F .f32) (sd : S1x16x11.Idx → Elt F .f32) (ids : S32x2.Idx → Elt F .i32) (wt : S32x2.Idx → Elt F .f32) (ha : S32x1408.Idx → Elt F .f32) (o : S32x2048.Idx → Elt F .f32) :
    left4Later c i arg2 harg2 arg3 harg3 arg4 harg4 arg5 harg5 arg6 harg6 arg7 harg7 arg8 harg8 arg9 harg9 arg10 harg10 arg11 harg11 hp he wd sd ids wt ha o = arg9.view.read (Elt F) (arg9.view.writes (Elt F) (harg9.unread o)
      (blocks8.map fun d => (⟨Rect.unit (offLater i d) S32x128.size (inbOut i _ (offLater_eq i hp) d),
        addf (shapeCast S32x128 (View.readAt (Elt F) arg9.view (Rect.unit (s := S32x2048) (offLater i d) S32x128.size (inbOut i _ (offLater_eq i hp) d)).toLoadRect (harg9.unread o)) shapeCasts_S32x128_S32x128)
          (dblkOf i arg5 harg5 arg6 harg6 arg7 harg7 arg8 harg8 arg11 harg11 hp wd sd ids wt ha d)⟩ : View.Piece (Elt F) S32x2048 .f32))) := rfl
end

end Cert.KernelIdeal.Hand

end
-- ==== Proof.Value.Phase.lean ====
/-
  What each phase leaves, at an element, over the ideal values.
-/
module

public import proofs.«01_k».proof.Proof.Value.Pieces
public import proofs.«01_k».proof.Proof.Value.OutPieces

@[expose] public section

set_option maxRecDepth 16384

noncomputable section

namespace Cert.KernelIdeal.Hand

open Cert.KernelIdeal Cert.KernelIdeal.Gen
open Idealize.ShloMosaic

/-- Half `h` of a gate or up product (scale rows from `o` on) at a row and a column, from the blocks the point has. -/
def halfSum (o h : ℕ) (ho : o ≤ 11) (hh : h ≤ 1) (x : S32x2048.Idx → EReal) (w : S1x1408x1024.Idx → EReal) (s : S1x22x16.Idx → EReal) (r : Fin 32) (q : Fin 1408) : EReal :=
  ∑ k : Fin 1024, (x (ix2 r ⟨1024 * h + k.val, by omega⟩) * s (ix3 0 ⟨o + q.val / 128, by omega⟩ ⟨8 * h + k.val / 128, by omega⟩)) * w (ix3 0 q k)

/-- The routing weight of the expert named by a word, at a row. -/
def pick (ids : S32x2.Idx → BitVec 32) (wt : S32x2.Idx → EReal) (e : BitVec 32) (r : Fin 32) : EReal :=
  ∑ k : Fin 2, if ids (ix2 r k) = e then wt (ix2 r k) else 0

/-- The down product at a row and a column of half `h`, from the blocks the point has. -/
def downSum (h : ℕ) (hh : h ≤ 1) (e : BitVec 32) (wd : S1x1024x1408.Idx → EReal) (sd : S1x16x11.Idx → EReal) (ids : S32x2.Idx → BitVec 32) (wt : S32x2.Idx → EReal) (ha : S32x1408.Idx → EReal) (r : Fin 32) (q : Fin 1024) : EReal :=
  ∑ k : Fin 1408, ((ha (ix2 r k) * pick ids wt e r) * sd (ix3 0 ⟨8 * h + q.val / 128, by omega⟩ ⟨k.val / 128, by omega⟩)) * wd (ix3 0 q k)

section
variable
    (c : Dev nD) (i : grid0.Coords)
    (arg2 : Memref sig .tc .vmem S32x2048 .f32) (harg2 : arg2.IsWhole) (arg3 : Memref sig .tc .vmem S1x1408x1024 .f32) (harg3 : arg3.IsWhole)
    (arg4 : Memref sig .tc .vmem S1x22x16 .f32) (harg4 : arg4.IsWhole) (arg5 : Memref sig .tc .vmem S1x1024x1408 .f32) (harg5 : arg5.IsWhole)
    (arg6 : Memref sig .tc .vmem S1x16x11 .f32) (harg6 : arg6.IsWhole) (arg7 : Memref sig .tc .vmem S32x2 .i32) (harg7 : arg7.IsWhole)
    (arg8 : Memref sig .tc .vmem S32x2 .f32) (harg8 : arg8.IsWhole) (arg9 : Memref sig .tc .vmem S32x2048 .f32) (harg9 : arg9.IsWhole)
    (arg10 : Memref sig .tc .vmem S32x1408 .f32) (harg10 : arg10.IsWhole) (arg11 : Memref sig .tc .vmem S32x1408 .f32) (harg11 : arg11.IsWhole)

/-- A block's product, at an element, is the half product. -/
theorem blkOf_apply (o h : ℕ) (ho : o ≤ 11) (hh : h ≤ 1) (x : S32x2048.Idx → Elt Ideal .f32) (w : S1x1408x1024.Idx → Elt Ideal .f32) (s : S1x22x16.Idx → Elt Ideal .f32) (r : Fin 32) (q : Fin 1408) :
    blkOf arg2 harg2 arg3 harg3 arg4 harg4 o h ho hh x w s ⟨q.val / 128, by omega⟩ (ix2 r ⟨q.val % 128, by omega⟩) = halfSum o h ho hh x w s r q := by
  unfold blkOf halfSum
  refine (blk_apply _ _ _ r _).trans (Finset.sum_congr rfl fun k _ => ?_)
  rw [load_at harg2 x _ _ (inbHalf h hh) (ix2 r k) (ix2 r ⟨1024 * h + k.val, by omega⟩) (fun a => by
      match a with
      | ⟨0, _⟩ => exact (Nat.zero_add _).symm
      | ⟨1, _⟩ => rfl),
    load_at harg4 s _ _ (inbScale o h ho hh ⟨q.val / 128, by omega⟩) (ix3 0 0 ⟨k.val / 128, by omega⟩) (ix3 0 ⟨o + q.val / 128, by omega⟩ ⟨8 * h + k.val / 128, by omega⟩) (fun a => by
      match a with
      | ⟨0, _⟩ => rfl
      | ⟨1, _⟩ => rfl
      | ⟨2, _⟩ => rfl),
    load_at harg3 w _ _ (inbRows ⟨q.val / 128, by omega⟩) (ix3 0 ⟨q.val % 128, by omega⟩ k) (ix3 0 q k) (fun a => by
      match a with
      | ⟨0, _⟩ => rfl
      | ⟨1, _⟩ => show q.val = 128 * (q.val / 128) + q.val % 128; omega
      | ⟨2, _⟩ => exact (Nat.zero_add _).symm)]

/-- A column block read out of a scratch, at an element. -/
theorem colOf_apply (arg : Memref sig .tc .vmem S32x1408 .f32) (harg : arg.IsWhole) (g : S32x1408.Idx → Elt Ideal .f32) (r : Fin 32) (q : Fin 1408) :
    colOf arg harg g ⟨q.val / 128, by omega⟩ (ix2 r ⟨q.val % 128, by omega⟩) = g (ix2 r q) := by
  unfold colOf
  exact load_at harg g _ _ (inbCols ⟨q.val / 128, by omega⟩) (ix2 r ⟨q.val % 128, by omega⟩) (ix2 r q) (fun a => by
      match a with
      | ⟨0, _⟩ => exact (Nat.zero_add _).symm
      | ⟨1, _⟩ => show q.val = 128 * (q.val / 128) + q.val % 128; omega)

/-- Phase 0 leaves the gate product over the first half. -/
theorem left0_apply (hp : (i 1).val = 0) (x : S32x2048.Idx → Elt Ideal .f32) (w : S1x1408x1024.Idx → Elt Ideal .f32) (s : S1x22x16.Idx → Elt Ideal .f32) (hg : S32x1408.Idx → Elt Ideal .f32) (r : Fin 32) (q : Fin 1408) :
    left0 c i arg2 harg2 arg3 harg3 arg4 harg4 arg5 harg5 arg6 harg6 arg7 harg7 arg8 harg8 arg9 harg9 arg10 harg10 arg11 harg11 hp x w s hg (ix2 r q) = halfSum 0 0 (by decide) (by decide) x w s r q := by
  unfold left0
  rw [run0_pieces, cols_read, shapeCast_id, blkOf_apply]

/-- Phase 1 adds the second half. -/
theorem left1_apply (hp : (i 1).val = 1) (x : S32x2048.Idx → Elt Ideal .f32) (w : S1x1408x1024.Idx → Elt Ideal .f32) (s : S1x22x16.Idx → Elt Ideal .f32) (hg : S32x1408.Idx → Elt Ideal .f32) (r : Fin 32) (q : Fin 1408) :
    left1 c i arg2 harg2 arg3 harg3 arg4 harg4 arg5 harg5 arg6 harg6 arg7 harg7 arg8 harg8 arg9 harg9 arg10 harg10 arg11 harg11 hp x w s hg (ix2 r q) = (hg (ix2 r q) + halfSum 0 1 (by decide) (by decide) x w s r q : EReal) := by
  unfold left1
  rw [run1_pieces, cols_read, shapeCast_id]
  refine (addf_apply _ _ _).trans ?_
  rw [colOf_apply, blkOf_apply]; rfl

/-- Phase 2 leaves the up product over the first half. -/
theorem left2_apply (hp : (i 1).val = 2) (x : S32x2048.Idx → Elt Ideal .f32) (w : S1x1408x1024.Idx → Elt Ideal .f32) (s : S1x22x16.Idx → Elt Ideal .f32) (ha : S32x1408.Idx → Elt Ideal .f32) (r : Fin 32) (q : Fin 1408) :
    left2 c i arg2 harg2 arg3 harg3 arg4 harg4 arg5 harg5 arg6 harg6 arg7 harg7 arg8 harg8 arg9 harg9 arg10 harg10 arg11 harg11 hp x w s ha (ix2 r q) = halfSum 11 0 (by decide) (by decide) x w s r q := by
  unfold left2
  rw [run2_pieces, cols_read, shapeCast_id, blkOf_apply]

/-- Phase 3 adds the second half and multiplies by the gate's activation. -/
theorem left3_apply (hp : (i 1).val = 3) (x : S32x2048.Idx → Elt Ideal .f32) (w : S1x1408x1024.Idx → Elt Ideal .f32) (s : S1x22x16.Idx → Elt Ideal .f32) (hg ha : S32x1408.Idx → Elt Ideal .f32) (r : Fin 32) (q : Fin 1408) :
    left3 c i arg2 harg2 arg3 harg3 arg4 harg4 arg5 harg5 arg6 harg6 arg7 harg7 arg8 harg8 arg9 harg9 arg10 harg10 arg11 harg11 hp x w s hg ha (ix2 r q)
      = ((hg (ix2 r q) * Ideal.logistic (hg (ix2 r q))) * (ha (ix2 r q) + halfSum 11 1 (by decide) (by decide) x w s r q) : EReal) := by
  unfold left3
  rw [run3_pieces, cols_read, shapeCast_id]
  refine (mulf_apply _ _ _).trans ?_
  rw [mulf_apply, logistic_apply, addf_apply, colOf_apply, colOf_apply, blkOf_apply]; rfl

/-- A row's activations times the expert's routing weight. -/
theorem actOf_apply (ids : S32x2.Idx → Elt Ideal .i32) (wt : S32x2.Idx → Elt Ideal .f32) (ha : S32x1408.Idx → Elt Ideal .f32) (r : Fin 32) (k : Fin 1408) :
    actOf i arg7 harg7 arg8 harg8 arg11 harg11 ids wt ha (ix2 r k) = (ha (ix2 r k) * pick ids wt (BitVec.ofNat 32 (i 0).val) r : EReal) := by
  unfold actOf k0_pay65
  refine (mulf_apply _ _ _).trans ?_
  rw [load_at harg11 ha _ _ inb_S32x1408_S32x1408_0_0 (ix2 r k) (ix2 r k) (fun a => by
      match a with
      | ⟨0, _⟩ => exact (Nat.zero_add _).symm
      | ⟨1, _⟩ => exact (Nat.zero_add _).symm)]
  refine congrArg (fun z : EReal => (ha (ix2 r k) * z : EReal)) ?_
  pointwise
  refine Finset.sum_congr rfl fun k _ => ?_
  have hz (k : Fin 2) : ∀ a, (ix2 r k a).val = (![0, 0] : Fin 2 → ℕ) a + (ix2 r k a).val := fun a => by
    match a with
    | ⟨0, _⟩ => exact (Nat.zero_add _).symm
    | ⟨1, _⟩ => exact (Nat.zero_add _).symm
  rw [load_at harg7 ids _ _ inb_S32x2_S32x2_0_0 (ix2 r k) (ix2 r k) (hz k), load_at harg8 wt _ _ inb_S32x2_S32x2_0_0 (ix2 r k) (ix2 r k) (hz k)]
  unfold Scalar.select
  exact if_congr IntOp.cmpi_eq rfl rfl

/-- A block's down product, at an element, is the down sum. -/
theorem dblkOf_apply (hp : 4 ≤ (i 1).val) (wd : S1x1024x1408.Idx → Elt Ideal .f32) (sd : S1x16x11.Idx → Elt Ideal .f32) (ids : S32x2.Idx → Elt Ideal .i32) (wt : S32x2.Idx → Elt Ideal .f32) (ha : S32x1408.Idx → Elt Ideal .f32) (r : Fin 32) (q : Fin 1024) (hh : (i 1).val - 4 ≤ 1) :
    dblkOf i arg5 harg5 arg6 harg6 arg7 harg7 arg8 harg8 arg11 harg11 hp wd sd ids wt ha ⟨q.val / 128, by omega⟩ (ix2 r ⟨q.val % 128, by omega⟩)
      = downSum ((i 1).val - 4) hh (BitVec.ofNat 32 (i 0).val) wd sd ids wt ha r q := by
  unfold dblkOf downSum
  refine (dblk_apply _ _ _ r _).trans (Finset.sum_congr rfl fun k _ => ?_)
  rw [actOf_apply i arg7 harg7 arg8 harg8 arg11 harg11,
    load_at harg6 sd _ _ (inbRowScale i hp ⟨q.val / 128, by omega⟩) (ix3 0 0 ⟨k.val / 128, by omega⟩) (ix3 0 ⟨8 * ((i 1).val - 4) + q.val / 128, by omega⟩ ⟨k.val / 128, by omega⟩) (fun a => by
      rw [congrFun (rowScale_eq i hp _) a]
      match a with
      | ⟨0, _⟩ => rfl
      | ⟨1, _⟩ => rfl
      | ⟨2, _⟩ => exact (Nat.zero_add _).symm),
    load_at harg5 wd _ _ (inbDown ⟨q.val / 128, by omega⟩) (ix3 0 ⟨q.val % 128, by omega⟩ k) (ix3 0 q k) (fun a => by
      match a with
      | ⟨0, _⟩ => rfl
      | ⟨1, _⟩ => show q.val = 128 * (q.val / 128) + q.val % 128; omega
      | ⟨2, _⟩ => exact (Nat.zero_add _).symm)]

/-- The first expert's down phase leaves its product in its half of the columns. -/
theorem left4First_half (hp : 4 ≤ (i 1).val) (he : (i 0).val = 0) (wd : S1x1024x1408.Idx → Elt Ideal .f32) (sd : S1x16x11.Idx → Elt Ideal .f32) (ids : S32x2.Idx → Elt Ideal .i32) (wt : S32x2.Idx → Elt Ideal .f32) (ha : S32x1408.Idx → Elt Ideal .f32) (o : S32x2048.Idx → Elt Ideal .f32) (r : Fin 32) (q : Fin 2048) (hh : (i 1).val - 4 ≤ 1) (hq : q.val / 1024 = (i 1).val - 4) :
    left4First c i arg2 harg2 arg3 harg3 arg4 harg4 arg5 harg5 arg6 harg6 arg7 harg7 arg8 harg8 arg9 harg9 arg10 harg10 arg11 harg11 hp he wd sd ids wt ha o (ix2 r q)
      = downSum ((i 1).val - 4) hh (BitVec.ofNat 32 (i 0).val) wd sd ids wt ha r ⟨q.val % 1024, by omega⟩ := by
  rw [left4First_pieces, half_read _ _ _ _ (offFirst_eq i hp) _ _ r q hq,
    ← dblkOf_apply i arg5 harg5 arg6 harg6 arg7 harg7 arg8 harg8 arg11 harg11 hp]
  congr 2
  apply Fin.ext; show q.val % 128 = q.val % 1024 % 128; omega

/-- It leaves the other half as it was. -/
theorem left4First_kept (hp : 4 ≤ (i 1).val) (he : (i 0).val = 0) (wd : S1x1024x1408.Idx → Elt Ideal .f32) (sd : S1x16x11.Idx → Elt Ideal .f32) (ids : S32x2.Idx → Elt Ideal .i32) (wt : S32x2.Idx → Elt Ideal .f32) (ha : S32x1408.Idx → Elt Ideal .f32) (o : S32x2048.Idx → Elt Ideal .f32) (r : Fin 32) (q : Fin 2048) (hq : q.val / 1024 ≠ (i 1).val - 4) :
    left4First c i arg2 harg2 arg3 harg3 arg4 harg4 arg5 harg5 arg6 harg6 arg7 harg7 arg8 harg8 arg9 harg9 arg10 harg10 arg11 harg11 hp he wd sd ids wt ha o (ix2 r q) = o (ix2 r q) := by
  rw [left4First_pieces, half_kept _ _ _ _ (offFirst_eq i hp) _ _ r q hq, harg9.read_unread]

/-- A later expert's down phase adds its product in its half of the columns. -/
theorem left4Later_half (hp : 4 ≤ (i 1).val) (he : (i 0).val ≠ 0) (wd : S1x1024x1408.Idx → Elt Ideal .f32) (sd : S1x16x11.Idx → Elt Ideal .f32) (ids : S32x2.Idx → Elt Ideal .i32) (wt : S32x2.Idx → Elt Ideal .f32) (ha : S32x1408.Idx → Elt Ideal .f32) (o : S32x2048.Idx → Elt Ideal .f32) (r : Fin 32) (q : Fin 2048) (hh : (i 1).val - 4 ≤ 1) (hq : q.val / 1024 = (i 1).val - 4) :
    left4Later c i arg2 harg2 arg3 harg3 arg4 harg4 arg5 harg5 arg6 harg6 arg7 harg7 arg8 harg8 arg9 harg9 arg10 harg10 arg11 harg11 hp he wd sd ids wt ha o (ix2 r q)
      = (o (ix2 r q) + downSum ((i 1).val - 4) hh (BitVec.ofNat 32 (i 0).val) wd sd ids wt ha r ⟨q.val % 1024, by omega⟩ : EReal) := by
  rw [left4Later_pieces, half_read _ _ _ _ (offLater_eq i hp) _ _ r q hq,
    ← dblkOf_apply i arg5 harg5 arg6 harg6 arg7 harg7 arg8 harg8 arg11 harg11 hp]
  refine (addf_apply _ _ _).trans ?_
  refine congrArg₂ (fun y z : EReal => y + z) ((congrFun (shapeCast_id (s := S32x128) _ _) _).trans
    (load_at harg9 o _ _ (inbOut i _ (offLater_eq i hp) ⟨q.val % 1024 / 128, by omega⟩) (ix2 r ⟨q.val % 128, by omega⟩) (ix2 r q) (fun a => by
      rw [congrFun (offLater_eq i hp _) a]
      match a with
      | ⟨0, _⟩ => exact (Nat.zero_add _).symm
      | ⟨1, _⟩ => show q.val = 1024 * ((i 1).val - 4) + 128 * (q.val % 1024 / 128) + q.val % 128; omega))) ?_
  congr 2
  apply Fin.ext; show q.val % 128 = q.val % 1024 % 128; omega

/-- It leaves the other half as it was. -/
theorem left4Later_kept (hp : 4 ≤ (i 1).val) (he : (i 0).val ≠ 0) (wd : S1x1024x1408.Idx → Elt Ideal .f32) (sd : S1x16x11.Idx → Elt Ideal .f32) (ids : S32x2.Idx → Elt Ideal .i32) (wt : S32x2.Idx → Elt Ideal .f32) (ha : S32x1408.Idx → Elt Ideal .f32) (o : S32x2048.Idx → Elt Ideal .f32) (r : Fin 32) (q : Fin 2048) (hq : q.val / 1024 ≠ (i 1).val - 4) :
    left4Later c i arg2 harg2 arg3 harg3 arg4 harg4 arg5 harg5 arg6 harg6 arg7 harg7 arg8 harg8 arg9 harg9 arg10 harg10 arg11 harg11 hp he wd sd ids wt ha o (ix2 r q) = o (ix2 r q) := by
  rw [left4Later_pieces, half_kept _ _ _ _ (offLater_eq i hp) _ _ r q hq, harg9.read_unread]
end

end Cert.KernelIdeal.Hand

end
-- ==== Proof.Value.Blocks.lean ====
/-
  What each input window's block holds at a point, as an element of the argument array it is cut from.
-/
module

public import proofs.«01_k».proof.Proof.Track
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The gate and up weights' block index, by expert and phase. -/
theorem map1_eq : ∀ (i : grid0.Coords) (a : Fin 3), cc0_transform_1 i a = (![(i 0).val, min (i 1).val 3 / 2, min (i 1).val 3 % 2] : Fin 3 → ℕ) a := by decide +kernel
/-- The gate and up scales' block index is the expert. -/
theorem map2_eq : ∀ (i : grid0.Coords) (a : Fin 3), cc0_transform_2 i a = (![(i 0).val, 0, 0] : Fin 3 → ℕ) a := by decide +kernel
/-- The down weights' block index, by expert and phase. -/
theorem map3_eq : ∀ (i : grid0.Coords) (a : Fin 3), cc0_transform_3 i a = (![(i 0).val, (i 1).val - 4, 0] : Fin 3 → ℕ) a := by decide +kernel
/-- The down scales' block index is the expert. -/
theorem map4_eq : ∀ (i : grid0.Coords) (a : Fin 3), cc0_transform_4 i a = (![(i 0).val, 0, 0] : Fin 3 → ℕ) a := by decide +kernel

variable {F : FTy → Type} [FloatOps F] (m : (ℓ : Loc nD τ sig) → Buf (Elt F) ℓ) (c : Dev nD) (t : Fin cfg0.N)

/-- Window 0's block at a place is its array at the block's offset plus the place. -/
theorem iblk0_at (y : S32x2048.Idx) (i : S32x2048.Idx) (hi : ∀ a, (i a).val = cc0_transform_0 (grid0.coords t) a * S32x2048.size a + (y a).val) :
    (iblk m c 0 t : S32x2048.Idx → Elt F .f32) y = (m ((c : Thread nD τ).loc main_arg0) : S32x2048.Idx → Elt F .f32) i := by
  unfold iblk
  rw [View.read_apply]
  show m ((c : Thread nD τ).loc main_arg0) _ = m ((c : Thread nD τ).loc main_arg0) _
  congr 1
  funext a
  apply Fin.ext
  rw [hi a]
  exact Pipeline.Window.rect_emb_val (cfg0.win 0) t y a

/-- Window 1's block at a place is its array at the block's offset plus the place. -/
theorem iblk1_at (y : S1x1408x1024.Idx) (i : S16x2816x2048.Idx) (hi : ∀ a, (i a).val = cc0_transform_1 (grid0.coords t) a * S1x1408x1024.size a + (y a).val) :
    (iblk m c 1 t : S1x1408x1024.Idx → Elt F .f32) y = (m ((c : Thread nD τ).loc main_arg3) : S16x2816x2048.Idx → Elt F .f32) i := by
  unfold iblk
  rw [View.read_apply]
  show m ((c : Thread nD τ).loc main_arg3) _ = m ((c : Thread nD τ).loc main_arg3) _
  congr 1
  funext a
  apply Fin.ext
  rw [hi a]
  exact Pipeline.Window.rect_emb_val (cfg0.win 1) t y a

/-- Window 2's block at a place is its array at the block's offset plus the place. -/
theorem iblk2_at (y : S1x22x16.Idx) (i : S16x22x16.Idx) (hi : ∀ a, (i a).val = cc0_transform_2 (grid0.coords t) a * S1x22x16.size a + (y a).val) :
    (iblk m c 2 t : S1x22x16.Idx → Elt F .f32) y = (m ((c : Thread nD τ).loc main_arg4) : S16x22x16.Idx → Elt F .f32) i := by
  unfold iblk
  rw [View.read_apply]
  show m ((c : Thread nD τ).loc main_arg4) _ = m ((c : Thread nD τ).loc main_arg4) _
  congr 1
  funext a
  apply Fin.ext
  rw [hi a]
  exact Pipeline.Window.rect_emb_val (cfg0.win 2) t y a

/-- Window 3's block at a place is its array at the block's offset plus the place. -/
theorem iblk3_at (y : S1x1024x1408.Idx) (i : S16x2048x1408.Idx) (hi : ∀ a, (i a).val = cc0_transform_3 (grid0.coords t) a * S1x1024x1408.size a + (y a).val) :
    (iblk m c 3 t : S1x1024x1408.Idx → Elt F .f32) y = (m ((c : Thread nD τ).loc main_arg5) : S16x2048x1408.Idx → Elt F .f32) i := by
  unfold iblk
  rw [View.read_apply]
  show m ((c : Thread nD τ).loc main_arg5) _ = m ((c : Thread nD τ).loc main_arg5) _
  congr 1
  funext a
  apply Fin.ext
  rw [hi a]
  exact Pipeline.Window.rect_emb_val (cfg0.win 3) t y a

/-- Window 4's block at a place is its array at the block's offset plus the place. -/
theorem iblk4_at (y : S1x16x11.Idx) (i : S16x16x11.Idx) (hi : ∀ a, (i a).val = cc0_transform_4 (grid0.coords t) a * S1x16x11.size a + (y a).val) :
    (iblk m c 4 t : S1x16x11.Idx → Elt F .f32) y = (m ((c : Thread nD τ).loc main_arg6) : S16x16x11.Idx → Elt F .f32) i := by
  unfold iblk
  rw [View.read_apply]
  show m ((c : Thread nD τ).loc main_arg6) _ = m ((c : Thread nD τ).loc main_arg6) _
  congr 1
  funext a
  apply Fin.ext
  rw [hi a]
  exact Pipeline.Window.rect_emb_val (cfg0.win 4) t y a

/-- Window 5's block at a place is its array at the block's offset plus the place. -/
theorem iblk5_at (y : S32x2.Idx) (i : S32x2.Idx) (hi : ∀ a, (i a).val = cc0_transform_5 (grid0.coords t) a * S32x2.size a + (y a).val) :
    (iblk m c 5 t : S32x2.Idx → Elt F .i32) y = (m ((c : Thread nD τ).loc main_arg2) : S32x2.Idx → Elt F .i32) i := by
  unfold iblk
  rw [View.read_apply]
  show m ((c : Thread nD τ).loc main_arg2) _ = m ((c : Thread nD τ).loc main_arg2) _
  congr 1
  funext a
  apply Fin.ext
  rw [hi a]
  exact Pipeline.Window.rect_emb_val (cfg0.win 5) t y a

/-- Window 6's block at a place is its array at the block's offset plus the place. -/
theorem iblk6_at (y : S32x2.Idx) (i : S32x2.Idx) (hi : ∀ a, (i a).val = cc0_transform_6 (grid0.coords t) a * S32x2.size a + (y a).val) :
    (iblk m c 6 t : S32x2.Idx → Elt F .f32) y = (m ((c : Thread nD τ).loc main_arg1) : S32x2.Idx → Elt F .f32) i := by
  unfold iblk
  rw [View.read_apply]
  show m ((c : Thread nD τ).loc main_arg1) _ = m ((c : Thread nD τ).loc main_arg1) _
  congr 1
  funext a
  apply Fin.ext
  rw [hi a]
  exact Pipeline.Window.rect_emb_val (cfg0.win 6) t y a

end Cert.KernelIdeal.Hand

end
-- ==== Proof.Value.Spec.lean ====
/-
  The kernel's sums over the argument arrays, and the point's sums read as those.
-/
module

public import proofs.«01_k».proof.Proof.Value.Phase
public import proofs.«01_k».proof.Proof.Value.Blocks

@[expose] public section

set_option maxRecDepth 16384

noncomputable section

namespace Cert.KernelIdeal.Hand

open Cert.KernelIdeal Cert.KernelIdeal.Gen
open Idealize.ShloMosaic Idealize.ShloMosaic.TcCoe

section
variable (A0 : S32x2048.Idx → EReal) (A1 : S32x2.Idx → EReal) (A2 : S32x2.Idx → BitVec 32) (A3 : S16x2816x2048.Idx → EReal)
  (A4 : S16x22x16.Idx → EReal) (A5 : S16x2048x1408.Idx → EReal) (A6 : S16x16x11.Idx → EReal)

/-- Half `h` of expert `e`'s gate product (`u = 0`) or up product (`u = 1`). -/
def prodHalf (u h : ℕ) (hu : u ≤ 1) (hh : h ≤ 1) (e : Fin 16) (r : Fin 32) (q : Fin 1408) : EReal :=
  ∑ k : Fin 1024, (A0 (ix2 r ⟨1024 * h + k.val, by omega⟩) * A4 (ix3 e ⟨11 * u + q.val / 128, by omega⟩ ⟨8 * h + k.val / 128, by omega⟩))
    * A3 (ix3 e ⟨1408 * u + q.val, by omega⟩ ⟨1024 * h + k.val, by omega⟩)

/-- Expert `e`'s gate product. -/
def gate (e : Fin 16) (r : Fin 32) (q : Fin 1408) : EReal :=
  prodHalf A0 A3 A4 0 0 (by decide) (by decide) e r q + prodHalf A0 A3 A4 0 1 (by decide) (by decide) e r q

/-- Expert `e`'s up product. -/
def up (e : Fin 16) (r : Fin 32) (q : Fin 1408) : EReal :=
  prodHalf A0 A3 A4 1 0 (by decide) (by decide) e r q + prodHalf A0 A3 A4 1 1 (by decide) (by decide) e r q

/-- Expert `e`'s activation. -/
def act (e : Fin 16) (r : Fin 32) (q : Fin 1408) : EReal :=
  (gate A0 A3 A4 e r q * Ideal.logistic (gate A0 A3 A4 e r q)) * up A0 A3 A4 e r q

/-- Expert `e`'s weighted down product. -/
def contrib (e : Fin 16) (r : Fin 32) (d : Fin 2048) : EReal :=
  ∑ k : Fin 1408, ((act A0 A3 A4 e r k * pick A2 A1 (BitVec.ofNat 32 e.val) r) * A6 (ix3 e ⟨d.val / 128, by omega⟩ ⟨k.val / 128, by omega⟩))
    * A5 (ix3 e d k)

/-- The weighted down products of the first `n` experts, added up. -/
def partialSum (n : ℕ) (r : Fin 32) (d : Fin 2048) : EReal :=
  ∑ e ∈ Finset.range n, if h : e < 16 then contrib A0 A1 A2 A3 A4 A5 A6 ⟨e, h⟩ r d else 0

end

variable (m : (ℓ : Loc nD τ sig) → Buf (Elt Ideal) ℓ) (c : Dev nD) (t : Fin cfg0.N)

/-- The hidden states. -/
abbrev arr0 : S32x2048.Idx → EReal := m ((c : Thread nD τ).loc main_arg0)
/-- The routing weights. -/
abbrev arr1 : S32x2.Idx → EReal := m ((c : Thread nD τ).loc main_arg1)
/-- The expert ids. -/
abbrev arr2 : S32x2.Idx → BitVec 32 := m ((c : Thread nD τ).loc main_arg2)
/-- The gate and up weights. -/
abbrev arr3 : S16x2816x2048.Idx → EReal := m ((c : Thread nD τ).loc main_arg3)
/-- The gate and up scales. -/
abbrev arr4 : S16x22x16.Idx → EReal := m ((c : Thread nD τ).loc main_arg4)
/-- The down weights. -/
abbrev arr5 : S16x2048x1408.Idx → EReal := m ((c : Thread nD τ).loc main_arg5)
/-- The down scales. -/
abbrev arr6 : S16x16x11.Idx → EReal := m ((c : Thread nD τ).loc main_arg6)

/-- A point's half product is the one of its expert, part and half. -/
theorem halfSum_point (u h : ℕ) (hu : u ≤ 1) (hh : h ≤ 1) (ho : 11 * u ≤ 11) (e : Fin 16) (he : e.val = (grid0.coords t 0).val)
    (hu' : min (grid0.coords t 1).val 3 / 2 = u) (hh' : min (grid0.coords t 1).val 3 % 2 = h) (r : Fin 32) (q : Fin 1408) :
    halfSum (11 * u) h ho hh (iblk m c 0 t) (iblk m c 1 t) (iblk m c 2 t) r q = prodHalf (arr0 m c) (arr3 m c) (arr4 m c) u h hu hh e r q := by
  unfold halfSum prodHalf
  refine Finset.sum_congr rfl fun k _ => ?_
  congr 1
  · congr 1
    · exact iblk0_at m c t _ _ (fun a => by
        match a with
        | ⟨0, _⟩ => exact (Nat.zero_add _).symm.trans (congrArg (· + _) (Nat.zero_mul _).symm)
        | ⟨1, _⟩ => exact (Nat.zero_add _).symm.trans (congrArg (· + _) (Nat.zero_mul _).symm))
    · exact iblk2_at m c t _ _ (fun a => by
        rw [map2_eq]
        match a with
        | ⟨0, _⟩ => show e.val = (grid0.coords t 0).val * 1 + 0; omega
        | ⟨1, _⟩ => show 11 * u + q.val / 128 = 0 * 22 + (11 * u + q.val / 128); omega
        | ⟨2, _⟩ => show 8 * h + k.val / 128 = 0 * 16 + (8 * h + k.val / 128); omega)
  · exact iblk1_at m c t _ _ (fun a => by
      rw [map1_eq]
      match a with
      | ⟨0, _⟩ => show e.val = (grid0.coords t 0).val * 1 + 0; omega
      | ⟨1, _⟩ => show 1408 * u + q.val = (min (grid0.coords t 1).val 3 / 2) * 1408 + q.val; rw [hu']; omega
      | ⟨2, _⟩ => show 1024 * h + k.val = (min (grid0.coords t 1).val 3 % 2) * 1024 + k.val; rw [hh']; omega)

/-- The routing weight read from a point's blocks is the arrays'. -/
theorem pick_point (e : BitVec 32) (r : Fin 32) : pick (iblk m c 5 t) (iblk m c 6 t) e r = pick (arr2 m c) (arr1 m c) e r := by
  have h5 (k : Fin 2) : (iblk m c 5 t : S32x2.Idx → BitVec 32) (ix2 r k) = arr2 m c (ix2 r k) := iblk5_at m c t _ _ (fun a => by
    match a with
    | ⟨0, _⟩ => exact (Nat.zero_add _).symm.trans (congrArg (· + _) (Nat.zero_mul _).symm)
    | ⟨1, _⟩ => exact (Nat.zero_add _).symm.trans (congrArg (· + _) (Nat.zero_mul _).symm))
  have h6 (k : Fin 2) : (iblk m c 6 t : S32x2.Idx → EReal) (ix2 r k) = arr1 m c (ix2 r k) := iblk6_at m c t _ _ (fun a => by
    match a with
    | ⟨0, _⟩ => exact (Nat.zero_add _).symm.trans (congrArg (· + _) (Nat.zero_mul _).symm)
    | ⟨1, _⟩ => exact (Nat.zero_add _).symm.trans (congrArg (· + _) (Nat.zero_mul _).symm))
  unfold pick
  exact Finset.sum_congr rfl fun k _ => by rw [h5 k, h6 k]

/-- A point's down product is its expert's, at its half of the columns, when the scratch holds the activation. -/
theorem downSum_point (hp : 4 ≤ (grid0.coords t 1).val) (hh : (grid0.coords t 1).val - 4 ≤ 1) (e : Fin 16) (he : e.val = (grid0.coords t 0).val)
    (ha : S32x1408.Idx → EReal) (hha : ∀ r q, ha (ix2 r q) = act (arr0 m c) (arr3 m c) (arr4 m c) e r q)
    (r : Fin 32) (q : Fin 2048) (hq : q.val / 1024 = (grid0.coords t 1).val - 4) :
    downSum ((grid0.coords t 1).val - 4) hh (BitVec.ofNat 32 (grid0.coords t 0).val) (iblk m c 3 t) (iblk m c 4 t) (iblk m c 5 t) (iblk m c 6 t) ha r ⟨q.val % 1024, by omega⟩
      = contrib (arr0 m c) (arr1 m c) (arr2 m c) (arr3 m c) (arr4 m c) (arr5 m c) (arr6 m c) e r q := by
  unfold downSum contrib
  refine Finset.sum_congr rfl fun k _ => ?_
  rw [hha, pick_point, he]
  congr 1
  · congr 1
    exact iblk4_at m c t _ _ (fun a => by
      rw [map4_eq]
      match a with
      | ⟨0, _⟩ => show e.val = (grid0.coords t 0).val * 1 + 0; omega
      | ⟨1, _⟩ => show q.val / 128 = 0 * 16 + (8 * ((grid0.coords t 1).val - 4) + q.val % 1024 / 128); omega
      | ⟨2, _⟩ => show k.val / 128 = 0 * 11 + k.val / 128; omega)
  · exact iblk3_at m c t _ _ (fun a => by
      rw [map3_eq]
      match a with
      | ⟨0, _⟩ => show e.val = (grid0.coords t 0).val * 1 + 0; omega
      | ⟨1, _⟩ => show q.val = ((grid0.coords t 1).val - 4) * 1024 + q.val % 1024; omega
      | ⟨2, _⟩ => show k.val = 0 * 1408 + k.val; omega)

end Cert.KernelIdeal.Hand

end
-- ==== Proof.Value.State.lean ====
/-
  What the scratches and the output block hold before each grid point, and that the body keeps it.
-/
module

public import proofs.«01_k».proof.Proof.Value.Spec
public import proofs.«01_k».proof.Proof.Frame

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- What the two scratches hold before point `n`: the first half's gate product after phase 0, the whole gate product after
    phase 1, the up product's first half as well after phase 2, and the activation after phase 3. -/
def Holds (c : Dev nD) (n : ℕ) (g a : Scr Ideal) : Prop :=
  ∀ e : Fin 16, e.val = n / 6 →
    (n % 6 = 1 → ∀ r q, g (ix2 r q) = prodHalf (arr0 m c) (arr3 m c) (arr4 m c) 0 0 (by decide) (by decide) e r q)
    ∧ (n % 6 = 2 ∨ n % 6 = 3 → ∀ r q, g (ix2 r q) = gate (arr0 m c) (arr3 m c) (arr4 m c) e r q)
    ∧ (n % 6 = 3 → ∀ r q, a (ix2 r q) = prodHalf (arr0 m c) (arr3 m c) (arr4 m c) 1 0 (by decide) (by decide) e r q)
    ∧ (4 ≤ n % 6 → ∀ r q, a (ix2 r q) = act (arr0 m c) (arr3 m c) (arr4 m c) e r q)

/-- What the output block holds before point `n`: in each column, the sum over the experts whose phase for the column's half is
    over, once there is one. -/
def Sums (c : Dev nD) (n : ℕ) (X : Out Ideal) : Prop :=
  ∀ (r : Fin 32) (q : Fin 2048), 0 < (n + 1 - q.val / 1024) / 6 →
    X (ix2 r q) = partialSum (arr0 m c) (arr1 m c) (arr2 m c) (arr3 m c) (arr4 m c) (arr5 m c) (arr6 m c) ((n + 1 - q.val / 1024) / 6) r q

/-- A point keeps the sums. -/
def KeepsSums (c : Dev nD) (n : ℕ) (Y X : Out Ideal) : Prop := Sums m c n Y → Sums m c (n + 1) X

/-- One more expert adds its weighted down product. -/
theorem partialSum_succ (c : Dev nD) (e : Fin 16) (n : ℕ) (hn : n = e.val) (r : Fin 32) (q : Fin 2048) :
    partialSum (arr0 m c) (arr1 m c) (arr2 m c) (arr3 m c) (arr4 m c) (arr5 m c) (arr6 m c) (n + 1) r q
      = partialSum (arr0 m c) (arr1 m c) (arr2 m c) (arr3 m c) (arr4 m c) (arr5 m c) (arr6 m c) n r q
        + contrib (arr0 m c) (arr1 m c) (arr2 m c) (arr3 m c) (arr4 m c) (arr5 m c) (arr6 m c) e r q := by
  subst hn
  unfold partialSum
  rw [Finset.sum_range_succ, dif_pos e.isLt]

/-- The body keeps both. -/
theorem keeps : Keeps m (Holds m) (KeepsSums m) where
  start c g a e he := ⟨fun h => by omega, fun h => by omega, fun h => by omega, fun h => by omega⟩
  same c t hp Y hY r q hc := by
    have h1 := coord1 t
    have hq := q.isLt
    have e : (t.val + 1 + 1 - q.val / 1024) / 6 = (t.val + 1 - q.val / 1024) / 6 := by omega
    rw [e] at hc ⊢
    exact hY r q hc
  p0 c t hp g a hT e he := by
    have h0 := coord0 t
    have h1 := coord1 t
    refine ⟨fun _ r q => ?_, fun h => by omega, fun h => by omega, fun h => by omega⟩
    exact (left0_apply _ _ _ _ _ _ _ _ _ _ _ _ _ _ _ _ _ _ _ _ _ _ hp _ _ _ _ r q).trans
      (halfSum_point m c t 0 0 (by decide) (by decide) (by decide) e (by omega) (by omega) (by omega) r q)
  p1 c t hp g a hT e he := by
    have h0 := coord0 t
    have h1 := coord1 t
    refine ⟨fun h => by omega, fun _ r q => ?_, fun h => by omega, fun h => by omega⟩
    refine (left1_apply _ _ _ _ _ _ _ _ _ _ _ _ _ _ _ _ _ _ _ _ _ _ hp _ _ _ _ r q).trans ?_
    exact congrArg₂ (fun y z : EReal => y + z) ((hT e (by omega)).1 (by omega) r q)
      (halfSum_point m c t 0 1 (by decide) (by decide) (by decide) e (by omega) (by omega) (by omega) r q)
  p2 c t hp g a hT e he := by
    have h0 := coord0 t
    have h1 := coord1 t
    refine ⟨fun h => by omega, fun _ r q => (hT e (by omega)).2.1 (by omega) r q, fun _ r q => ?_, fun h => by omega⟩
    exact (left2_apply _ _ _ _ _ _ _ _ _ _ _ _ _ _ _ _ _ _ _ _ _ _ hp _ _ _ _ r q).trans
      (halfSum_point m c t 1 0 (by decide) (by decide) (by decide) e (by omega) (by omega) (by omega) r q)
  p3 c t hp g a hT e he := by
    have h0 := coord0 t
    have h1 := coord1 t
    refine ⟨fun h => by omega, fun h => by omega, fun h => by omega, fun _ r q => ?_⟩
    refine (left3_apply _ _ _ _ _ _ _ _ _ _ _ _ _ _ _ _ _ _ _ _ _ _ hp _ _ _ _ _ r q).trans ?_
    have hg := (hT e (by omega)).2.1 (by omega) r q
    exact congrArg₂ (fun y z : EReal => y * z) (congrArg (fun y : EReal => y * Ideal.logistic y) hg)
      (congrArg₂ (fun y z : EReal => y + z) ((hT e (by omega)).2.2.1 (by omega) r q)
        (halfSum_point m c t 1 1 (by decide) (by decide) (by decide) e (by omega) (by omega) (by omega) r q))
  p4First c t hp he0 g a Y hT := by
    have h0 := coord0 t
    have h1 := coord1 t
    have ht : t.val < 96 := lt_of_lt_of_eq t.isLt N_0
    have hh : (grid0.coords t 1).val - 4 ≤ 1 := by omega
    refine ⟨fun e he => ⟨fun h => by omega, fun h => by omega, fun h => by omega, fun h r q => (hT e (by omega)).2.2.2 (by omega) r q⟩, fun hY r q hc => ?_⟩
    have hq := q.isLt
    have hact := (hT ⟨t.val / 6, by omega⟩ rfl).2.2.2 (by omega)
    by_cases hs : q.val / 1024 = (grid0.coords t 1).val - 4
    · have e1 : (t.val + 1 + 1 - q.val / 1024) / 6 = (t.val + 1 - q.val / 1024) / 6 + 1 := by omega
      rw [e1, partialSum_succ m c ⟨t.val / 6, by omega⟩ _ (by show _ = t.val / 6; omega)]
      have e2 : (t.val + 1 - q.val / 1024) / 6 = 0 := by omega
      rw [e2]
      refine (left4First_half _ _ _ _ _ _ _ _ _ _ _ _ _ _ _ _ _ _ _ _ _ _ hp he0 _ _ _ _ _ _ r q hh hs).trans ?_
      refine (downSum_point m c t hp hh ⟨t.val / 6, by omega⟩ h0.symm a hact r q hs).trans ?_
      unfold partialSum
      rw [Finset.sum_range_zero, zero_add]
    · have e1 : (t.val + 1 + 1 - q.val / 1024) / 6 = (t.val + 1 - q.val / 1024) / 6 := by omega
      rw [e1] at hc ⊢
      exact (left4First_kept _ _ _ _ _ _ _ _ _ _ _ _ _ _ _ _ _ _ _ _ _ _ hp he0 _ _ _ _ _ _ r q hs).trans (hY r q hc)
  p4Later c t hp he0 g a Y hT := by
    have h0 := coord0 t
    have h1 := coord1 t
    have ht : t.val < 96 := lt_of_lt_of_eq t.isLt N_0
    have hh : (grid0.coords t 1).val - 4 ≤ 1 := by omega
    refine ⟨fun e he => ⟨fun h => by omega, fun h => by omega, fun h => by omega, fun h r q => (hT e (by omega)).2.2.2 (by omega) r q⟩, fun hY r q hc => ?_⟩
    have hq := q.isLt
    have hact := (hT ⟨t.val / 6, by omega⟩ rfl).2.2.2 (by omega)
    by_cases hs : q.val / 1024 = (grid0.coords t 1).val - 4
    · have e1 : (t.val + 1 + 1 - q.val / 1024) / 6 = (t.val + 1 - q.val / 1024) / 6 + 1 := by omega
      rw [e1, partialSum_succ m c ⟨t.val / 6, by omega⟩ _ (by show _ = t.val / 6; omega)]
      refine (left4Later_half _ _ _ _ _ _ _ _ _ _ _ _ _ _ _ _ _ _ _ _ _ _ hp he0 _ _ _ _ _ _ r q hh hs).trans ?_
      exact congrArg₂ (fun y z : EReal => y + z) (hY r q (by omega))
        (downSum_point m c t hp hh ⟨t.val / 6, by omega⟩ h0.symm a hact r q hs)
    · have e1 : (t.val + 1 + 1 - q.val / 1024) / 6 = (t.val + 1 - q.val / 1024) / 6 := by omega
      rw [e1] at hc ⊢
      exact (left4Later_kept _ _ _ _ _ _ _ _ _ _ _ _ _ _ _ _ _ _ _ _ _ _ hp he0 _ _ _ _ _ _ r q hs).trans (hY r q hc)

/-- After the run the result holds the sum over the sixteen experts. -/
theorem result_sums {r : PUnit × MemSt nD τ sig (Elt Ideal)} (h : Pipeline.RDat.FramePost (cfgs 0) (fun c => rdat m (Holds m) (KeepsSums m) c) (V m) r)
    (c : Dev nD) (a : Fin 32) (q : Fin 2048) :
    (r.2.mem ((c.tc : Thread nD τ).loc main_v0) : S32x2048.Idx → EReal) (ix2 a q)
      = ∑ e : Fin 16, contrib (arr0 m c) (arr1 m c) (arr2 m c) (arr3 m c) (arr4 m c) (arr5 m c) (arr6 m c) e a q := by
  have hq := q.isLt
  have hS : Sums m c 96 (r.2.mem ((c.tc : Thread nD τ).loc main_v0)) :=
    result_keeps m (Holds m) (KeepsSums m) h c (Sums m c) (fun Y r q hc => by have := q.isLt; omega) (fun t Y X hB hY => hB hY)
  have e1 : (96 + 1 - q.val / 1024) / 6 = 16 := by omega
  refine (hS a q (by omega)).trans ?_
  rw [e1]
  unfold partialSum
  rw [Finset.sum_range]
  exact Finset.sum_congr rfl fun e _ => dif_pos e.isLt

end Cert.KernelIdeal.Hand

end
-- ==== Proof.Value.Reference.lean ====
/-
  The reference's result at an element, over the ideal values.
-/
module

public import proofs.«01_k».proof.Proof.Value.Spec
public import proofs.«01_k».proof.Proof.Gen.ReferenceIdeal.Read
public import Idealize.ShloMosaic.Lib.Routing.OpsPair
public import Idealize.ShloMosaic.Lib.IdealHost

@[expose] public section

set_option maxRecDepth 16384

noncomputable section

namespace Cert.ReferenceIdeal.Hand

open Cert.ReferenceIdeal Cert.ReferenceIdeal.Gen Cert.ReferenceIdeal.Read
open Cert.KernelIdeal.Hand (prodHalf gate up act pick)
open Idealize.ShloMosaic Idealize.ShloMosaic.TcCoe

variable (x0 : S32x2048.Idx → EReal) (x1 : S32x2.Idx → EReal) (x2 : S32x2.Idx → BitVec 32) (x3 : S16x2816x2048.Idx → EReal)
  (x4 : S16x22x16.Idx → EReal) (x5 : S16x2048x1408.Idx → EReal) (x6 : S16x16x11.Idx → EReal)

/-- The gate and up scales, repeated over their blocks. -/
theorem scale_at (e : Fin 16) (f : Fin 2816) (k : Fin 2048) :
    val_main_v3 (F := Ideal) x4 (ix3 e f k) = x4 (ix3 e ⟨f.val / 128, by omega⟩ ⟨k.val / 128, by omega⟩) := by
  have he := e.isLt
  have hf := f.isLt
  have hk := k.isLt
  have e3 : idx_main_v3 (ix3 e f k) = ix4 e f ⟨k.val / 128, by omega⟩ ⟨k.val % 128, by omega⟩ := funext fun a => Fin.ext (by
    match a with
    | ⟨0, _⟩ => show ((e.val * 2816 + f.val) * 2048 + k.val) / 5767168 = e.val; omega
    | ⟨1, _⟩ => show ((e.val * 2816 + f.val) * 2048 + k.val) / 2048 % 2816 = f.val; omega
    | ⟨2, _⟩ => show ((e.val * 2816 + f.val) * 2048 + k.val) / 128 % 16 = k.val / 128; omega
    | ⟨3, _⟩ => show ((e.val * 2816 + f.val) * 2048 + k.val) % 128 = k.val % 128; omega)
  have e2 : idx_main_v2 (ix4 e f (⟨k.val / 128, by omega⟩ : Fin 16) (⟨k.val % 128, by omega⟩ : Fin 128)) = ix3 e f ⟨k.val / 128, by omega⟩ := funext fun a => Fin.ext (by
    match a with
    | ⟨0, _⟩ => rfl
    | ⟨1, _⟩ => rfl
    | ⟨2, _⟩ => rfl)
  have e1 : idx_main_v1 (ix3 e f (⟨k.val / 128, by omega⟩ : Fin 16)) = ix4 e ⟨f.val / 128, by omega⟩ ⟨f.val % 128, by omega⟩ ⟨k.val / 128, by omega⟩ := funext fun a => Fin.ext (by
    match a with
    | ⟨0, _⟩ => show ((e.val * 2816 + f.val) * 16 + k.val / 128) / 45056 = e.val; omega
    | ⟨1, _⟩ => show ((e.val * 2816 + f.val) * 16 + k.val / 128) / 2048 % 22 = f.val / 128; omega
    | ⟨2, _⟩ => show ((e.val * 2816 + f.val) * 16 + k.val / 128) / 16 % 128 = f.val % 128; omega
    | ⟨3, _⟩ => show ((e.val * 2816 + f.val) * 16 + k.val / 128) % 16 = k.val / 128; omega)
  rw [val_main_v3_apply, e3, val_main_v2_apply, e2, val_main_v1_apply, e1, val_main_v0_apply]
  exact congrArg x4 (funext fun a => Fin.ext (by
    match a with
    | ⟨0, _⟩ => rfl
    | ⟨1, _⟩ => rfl
    | ⟨2, _⟩ => rfl))

/-- The down scales, repeated over their blocks. -/
theorem down_scale_at (e : Fin 16) (d : Fin 2048) (k : Fin 1408) :
    val_main_v8 (F := Ideal) x6 (ix3 e d k) = x6 (ix3 e ⟨d.val / 128, by omega⟩ ⟨k.val / 128, by omega⟩) := by
  have he := e.isLt
  have hd := d.isLt
  have hk := k.isLt
  have e3 : idx_main_v8 (ix3 e d k) = ix4 e d ⟨k.val / 128, by omega⟩ ⟨k.val % 128, by omega⟩ := funext fun a => Fin.ext (by
    match a with
    | ⟨0, _⟩ => show ((e.val * 2048 + d.val) * 1408 + k.val) / 2883584 = e.val; omega
    | ⟨1, _⟩ => show ((e.val * 2048 + d.val) * 1408 + k.val) / 1408 % 2048 = d.val; omega
    | ⟨2, _⟩ => show ((e.val * 2048 + d.val) * 1408 + k.val) / 128 % 11 = k.val / 128; omega
    | ⟨3, _⟩ => show ((e.val * 2048 + d.val) * 1408 + k.val) % 128 = k.val % 128; omega)
  have e2 : idx_main_v7 (ix4 e d (⟨k.val / 128, by omega⟩ : Fin 11) (⟨k.val % 128, by omega⟩ : Fin 128)) = ix3 e d ⟨k.val / 128, by omega⟩ := funext fun a => Fin.ext (by
    match a with
    | ⟨0, _⟩ => rfl
    | ⟨1, _⟩ => rfl
    | ⟨2, _⟩ => rfl)
  have e1 : idx_main_v6 (ix3 e d (⟨k.val / 128, by omega⟩ : Fin 11)) = ix4 e ⟨d.val / 128, by omega⟩ ⟨d.val % 128, by omega⟩ ⟨k.val / 128, by omega⟩ := funext fun a => Fin.ext (by
    match a with
    | ⟨0, _⟩ => show ((e.val * 2048 + d.val) * 11 + k.val / 128) / 22528 = e.val; omega
    | ⟨1, _⟩ => show ((e.val * 2048 + d.val) * 11 + k.val / 128) / 1408 % 16 = d.val / 128; omega
    | ⟨2, _⟩ => show ((e.val * 2048 + d.val) * 11 + k.val / 128) / 11 % 128 = d.val % 128; omega
    | ⟨3, _⟩ => show ((e.val * 2048 + d.val) * 11 + k.val / 128) % 11 = k.val / 128; omega)
  rw [val_main_v8_apply, e3, val_main_v7_apply, e2, val_main_v6_apply, e1, val_main_v5_apply]
  exact congrArg x6 (funext fun a => Fin.ext (by
    match a with
    | ⟨0, _⟩ => rfl
    | ⟨1, _⟩ => rfl
    | ⟨2, _⟩ => rfl))

/-- A term of a gate or up product, over one half of the hidden axis. -/
theorem half_term (u h : ℕ) (hu : u ≤ 1) (hh : h ≤ 1) (e : Fin 16) (r : Fin 32) (q : Fin 1408) (k : Fin 1024) :
    (val_main_v4 (F := Ideal) x3 x4 (ix3 e ⟨1408 * u + q.val, by omega⟩ ⟨1024 * h + k.val, by omega⟩) * x0 (ix2 r ⟨1024 * h + k.val, by omega⟩) : EReal)
      = (x0 (ix2 r ⟨1024 * h + k.val, by omega⟩) * x4 (ix3 e ⟨11 * u + q.val / 128, by omega⟩ ⟨8 * h + k.val / 128, by omega⟩))
        * x3 (ix3 e ⟨1408 * u + q.val, by omega⟩ ⟨1024 * h + k.val, by omega⟩) := by
  rw [val_main_v4_apply, scale_at]
  have e1 : (⟨(1408 * u + q.val) / 128, by omega⟩ : Fin 22) = ⟨11 * u + q.val / 128, by omega⟩ := Fin.ext (by show (1408 * u + q.val) / 128 = 11 * u + q.val / 128; omega)
  have e2 : (⟨(1024 * h + k.val) / 128, by omega⟩ : Fin 16) = ⟨8 * h + k.val / 128, by omega⟩ := Fin.ext (by show (1024 * h + k.val) / 128 = 8 * h + k.val / 128; omega)
  show (x3 _ * x4 (ix3 e ⟨(1408 * u + q.val) / 128, by omega⟩ ⟨(1024 * h + k.val) / 128, by omega⟩)) * x0 _ = _
  rw [e1, e2, mul_comm _ (x0 _), mul_comm (x3 _) (x4 _), mul_assoc]

/-- A column of the gate and up product is the sum of the two halves. -/
theorem product_at (u : ℕ) (hu : u ≤ 1) (e : Fin 16) (r : Fin 32) (q : Fin 1408) (i : S16x32x2816.Idx)
    (hi0 : (i 0).val = e.val) (hi1 : (i 1).val = r.val) (hi2 : (i 2).val = 1408 * u + q.val) :
    val_main_v11 (F := Ideal) x0 x3 x4 i = (prodHalf x0 x3 x4 u 0 hu (by decide) e r q + prodHalf x0 x3 x4 u 1 hu (by decide) e r q : EReal) := by
  rw [val_main_v11_apply, val_main_v10_apply]
  refine (Fin.sum_univ_add (a := 1024) (b := 1024) _).trans ?_
  unfold prodHalf
  refine congrArg₂ (fun y z : EReal => y + z) (Finset.sum_congr rfl fun k _ => ?_) (Finset.sum_congr rfl fun k _ => ?_)
  · rw [← half_term x0 x3 x4 u 0 hu (by decide) e r q k]
    refine congrArg₂ (fun y z : EReal => y * z) (congrArg (val_main_v4 (F := Ideal) x3 x4) (funext fun a => Fin.ext ?_)) (congrArg x0 (funext fun a => Fin.ext ?_))
    · match a with
      | ⟨0, _⟩ => exact hi0
      | ⟨1, _⟩ => exact hi2
      | ⟨2, _⟩ => show k.val = 1024 * 0 + k.val; omega
    · match a with
      | ⟨0, _⟩ => exact hi1
      | ⟨1, _⟩ => show k.val = 1024 * 0 + k.val; omega
  · rw [← half_term x0 x3 x4 u 1 hu (by decide) e r q k]
    refine congrArg₂ (fun y z : EReal => y * z) (congrArg (val_main_v4 (F := Ideal) x3 x4) (funext fun a => Fin.ext ?_)) (congrArg x0 (funext fun a => Fin.ext ?_))
    · match a with
      | ⟨0, _⟩ => exact hi0
      | ⟨1, _⟩ => exact hi2
      | ⟨2, _⟩ => show 1024 + k.val = 1024 * 1 + k.val; omega
    · match a with
      | ⟨0, _⟩ => exact hi1
      | ⟨1, _⟩ => show 1024 + k.val = 1024 * 1 + k.val; omega

/-- The reference's gate product is the sum of its two halves. -/
theorem gate_at (e : Fin 16) (r : Fin 32) (q : Fin 1408) : val_main_v12 (F := Ideal) x0 x3 x4 (ix3 e r q) = gate x0 x3 x4 e r q := by
  rw [val_main_v12_apply]
  exact product_at x0 x3 x4 0 (by decide) e r q _ rfl rfl (by show q.val = 1408 * 0 + q.val; omega)

/-- The reference's up product is the sum of its two halves. -/
theorem up_at (e : Fin 16) (r : Fin 32) (q : Fin 1408) : val_main_v13 (F := Ideal) x0 x3 x4 (ix3 e r q) = up x0 x3 x4 e r q := by
  rw [val_main_v13_apply]
  exact product_at x0 x3 x4 1 (by decide) e r q _ rfl rfl (by show 1408 + q.val = 1408 * 1 + q.val; omega)

/-- The activation. -/
theorem act_at (e : Fin 16) (r : Fin 32) (q : Fin 1408) : val_main_v15 (F := Ideal) x0 x3 x4 (ix3 e r q) = act x0 x3 x4 e r q := by
  rw [val_main_v15_apply, val_main_v14_apply, up_at, gate_at, val_main_call0_v5_apply, val_main_call0_v3_apply, val_main_call0_v1_apply,
    val_main_call0_v0_apply, gate_at, val_main_call0_v4_apply, val_main_call0_v2_apply, val_main_call0_cst_apply, val_main_call0_cst_0_apply]
  unfold act Ideal.logistic
  rw [← Ideal.ofBits_one_f32]
  rfl

/-- An expert's down product. -/
theorem down_at (e : Fin 16) (r : Fin 32) (d : Fin 2048) :
    val_main_v16 (F := Ideal) x0 x3 x4 x5 x6 (ix3 e r d)
      = ∑ k : Fin 1408, act x0 x3 x4 e r k * (x5 (ix3 e d k) * x6 (ix3 e ⟨d.val / 128, by omega⟩ ⟨k.val / 128, by omega⟩)) := by
  rw [val_main_v16_apply]
  refine Finset.sum_congr rfl fun k _ => ?_
  have el : lidx_main_v16 (ix3 e r d) k = ix3 e r k := funext fun a => Fin.ext (by
    match a with
    | ⟨0, _⟩ => rfl
    | ⟨1, _⟩ => rfl
    | ⟨2, _⟩ => rfl)
  have er : ridx_main_v16 (ix3 e r d) k = ix3 e d k := funext fun a => Fin.ext (by
    match a with
    | ⟨0, _⟩ => rfl
    | ⟨1, _⟩ => rfl
    | ⟨2, _⟩ => rfl)
  rw [el, er, act_at, val_main_v9_apply, down_scale_at]
  rfl

/-- The scatter's token word. -/
theorem token_word (a : Fin 32) (b : Fin 2) : val_main_v33 (F := Ideal) x2 (ix3 a b 0) = BitVec.ofNat 32 a.val := by
  unfold val_main_v33
  refine (concatenate_pair_apply_left 2 _ _ concatenates_S32x2x1_S32x2x1_S32x2x2_d2 (ix3 a b 0) rfl (ix3 a b 0) (fun p => ?_)).trans ?_
  · match p with
    | ⟨0, _⟩ => rfl
    | ⟨1, _⟩ => rfl
    | ⟨2, _⟩ => rfl
  rw [val_main_v31_apply, val_main_v30_apply, val_main_v24_apply, val_main_v21_apply, val_main_v20_apply, val_main_c_apply]
  refine (Routing.wrap_of_lt _ _ ?_).trans ?_
  · rw [val_main_v19_apply, val_main_v18_apply, BitVec.toNat_ofNat]
    have := a.isLt
    show a.val % 2 ^ 32 < 2 ^ 31
    omega
  · rw [val_main_v19_apply, val_main_v18_apply]; rfl

/-- The scatter's expert word: the id, when it isn't negative. -/
theorem expert_word (h2 : ∀ i, (x2 i).toNat < 2 ^ 31) (a : Fin 32) (b : Fin 2) : val_main_v33 (F := Ideal) x2 (ix3 a b 1) = x2 (ix2 a b) := by
  unfold val_main_v33
  refine (concatenate_pair_apply_right 2 _ _ concatenates_S32x2x1_S32x2x1_S32x2x2_d2 (ix3 a b 1) rfl rfl (ix3 a b 0) (fun p hp => ?_) rfl).trans ?_
  · match p with
    | ⟨0, _⟩ => rfl
    | ⟨1, _⟩ => rfl
    | ⟨2, _⟩ => exact absurd rfl hp
  rw [val_main_v32_apply, val_main_v29_apply, val_main_v26_apply, val_main_v25_apply, val_main_c_1_apply]
  have e : idx_main_v32 (ix3 a b 0) = ix2 a b := funext fun p => Fin.ext (by
    match p with
    | ⟨0, _⟩ => rfl
    | ⟨1, _⟩ => rfl)
  rw [e]
  exact Routing.wrap_of_lt _ _ (h2 _)

/-- The combine matrix: an expert's routing weight at a token. -/
theorem combine_at (h2 : ∀ i, (x2 i).toNat < 2 ^ 31) (r : Fin 32) (e : Fin 16) :
    val_main_v34 (F := Ideal) x1 x2 (ix2 r e) = pick x2 x1 (BitVec.ofNat 32 e.val) r := by
  have hlands (a : Fin 32) (b : Fin 2) :
      scatter_S32x16_S32x2x2_S32x2_n_01_01_2.resultIdx? (ix2 a b) (val_main_v33 (F := Ideal) x2) = some (ix2 r e)
        ↔ a = r ∧ x2 (ix2 a b) = BitVec.ofNat 32 e.val := by
    have ht := token_word x2 a b
    have hw := expert_word x2 h2 a b
    refine (Routing.scatter_lands2 scatter_S32x16_S32x2x2_S32x2_n_01_01_2 rfl rfl rfl (val_main_v33 (F := Ideal) x2) a b r e).trans ?_
    have ha := a.isLt
    have he := e.isLt
    refine and_congr ?_ ?_
    · refine (Eq.congr (congrArg BitVec.toInt ht) rfl).trans ?_
      rw [StableHlo.Predicate.toInt_ofNat_small _ (by omega)]
      exact Int.natCast_inj.trans Fin.val_inj
    · refine (Eq.congr (congrArg BitVec.toInt hw) rfl).trans ?_
      rw [← StableHlo.Predicate.toInt_ofNat_small e.val (by omega)]
      exact BitVec.toInt_inj
  unfold val_main_v34 pick
  show (val_main_v17 (F := Ideal) (ix2 r e) + ∑ j ∈ Finset.univ.filter (fun j => scatter_S32x16_S32x2x2_S32x2_n_01_01_2.resultIdx? j (val_main_v33 (F := Ideal) x2) = some (ix2 r e)), x1 j : EReal) = _
  rw [val_main_v17_apply, val_main_cst_apply]
  show (Ideal.ofBits .f32 0x00000000#32 + _ : EReal) = _
  rw [Ideal.ofBits_zero_f32, zero_add, Finset.sum_filter]
  refine (sum_idx2 _).trans ?_
  rw [Finset.sum_eq_single r]
  · exact Finset.sum_congr rfl fun b _ => if_congr ((hlands r b).trans (and_iff_right rfl)) rfl rfl
  · intro a _ ha
    exact Finset.sum_eq_zero fun b _ => if_neg fun q => ha ((hlands a b).1 q).1
  · intro h; exact absurd (Finset.mem_univ r) h

/-- The reference's result: over the experts, the routing weight times the down product. -/
theorem result_at (h2 : ∀ i, (x2 i).toNat < 2 ^ 31) (r : Fin 32) (d : Fin 2048) :
    val_main_v35 (F := Ideal) x0 x1 x2 x3 x4 x5 x6 (ix2 r d)
      = ∑ e : Fin 16, pick x2 x1 (BitVec.ofNat 32 e.val) r
        * ∑ k : Fin 1408, act x0 x3 x4 e r k * (x5 (ix3 e d k) * x6 (ix3 e ⟨d.val / 128, by omega⟩ ⟨k.val / 128, by omega⟩)) := by
  rw [val_main_v35_apply]
  refine Finset.sum_congr rfl fun e _ => ?_
  have el : lidx_main_v35 (ix2 r d) e = ix2 r e := funext fun a => Fin.ext (by
    match a with
    | ⟨0, _⟩ => rfl
    | ⟨1, _⟩ => rfl)
  have er : ridx_main_v35 (ix2 r d) e = ix3 e r d := funext fun a => Fin.ext (by
    match a with
    | ⟨0, _⟩ => rfl
    | ⟨1, _⟩ => rfl
    | ⟨2, _⟩ => rfl)
  rw [el, er, combine_at x1 x2 h2, down_at]

/-- Multiplying a sum by a number that is neither negative nor infinite multiplies each term. -/
theorem mul_sum_of_finite {n : ℕ} (c : EReal) (h0 : 0 ≤ c) (ht : c ≠ ⊤) (f : Fin n → EReal) : c * ∑ k, f k = ∑ k, c * f k := by
  induction n with
  | zero => rw [Fin.sum_univ_zero, Fin.sum_univ_zero, mul_zero]
  | succ n ih => rw [Fin.sum_univ_succ, Fin.sum_univ_succ, EReal.left_distrib_of_nonneg_of_ne_top h0 ht, ih]

/-- A routing weight is neither negative nor infinite when the weights are. -/
theorem pick_finite (h0 : ∀ i, 0 ≤ x1 i) (ht : ∀ i, x1 i ≠ ⊤) (e : BitVec 32) (r : Fin 32) : 0 ≤ pick x2 x1 e r ∧ pick x2 x1 e r ≠ ⊤ := by
  have n0 (k : Fin 2) : 0 ≤ (if x2 (ix2 r k) = e then x1 (ix2 r k) else 0 : EReal) := by
    split
    · exact h0 _
    · exact le_refl _
  have nt (k : Fin 2) : (if x2 (ix2 r k) = e then x1 (ix2 r k) else 0 : EReal) ≠ ⊤ := by
    split
    · exact ht _
    · exact EReal.zero_ne_top
  unfold pick
  rw [Fin.sum_univ_two]
  exact ⟨add_nonneg (n0 0) (n0 1), EReal.add_ne_top (nt 0) (nt 1)⟩

/-- The reference's result is the kernel's sum over the experts, for weights that are neither negative nor infinite and ids that
    aren't negative. -/
theorem result_eq (h0 : ∀ i, 0 ≤ x1 i) (ht : ∀ i, x1 i ≠ ⊤) (h2 : ∀ i, (x2 i).toNat < 2 ^ 31) (r : Fin 32) (d : Fin 2048) :
    val_main_v35 (F := Ideal) x0 x1 x2 x3 x4 x5 x6 (ix2 r d)
      = ∑ e : Fin 16, Cert.KernelIdeal.Hand.contrib x0 x1 x2 x3 x4 x5 x6 e r d := by
  rw [result_at x0 x1 x2 x3 x4 x5 x6 h2]
  refine Finset.sum_congr rfl fun e _ => ?_
  obtain ⟨p0, pt⟩ := pick_finite x1 x2 h0 ht (BitVec.ofNat 32 e.val) r
  rw [mul_sum_of_finite _ p0 pt]
  unfold Cert.KernelIdeal.Hand.contrib
  refine Finset.sum_congr rfl fun k _ => ?_
  rw [← mul_assoc, mul_comm (pick x2 x1 (BitVec.ofNat 32 e.val) r) (act x0 x3 x4 e r k), mul_comm (x5 _) (x6 _), ← mul_assoc]

end Cert.ReferenceIdeal.Hand

end
-- ==== Proof.Value.Condition.lean ====
/-
  What the precondition says of the arguments, over the ideal values.
-/
module

public import proofs.«01_k».proof.Pre_weights_finite_ids_nonneg
public import Idealize.ShloMosaic.Lib.Pointwise
public import Idealize.ShloMosaic.Lib.IdealHost
public import Idealize.ShloMosaic.Lib.WordCmp

@[expose] public section

noncomputable section

namespace Cert.Pre_weights_finite_ids_nonneg

open Idealize.ShloMosaic

variable [Facts]

/-- The pattern of infinity reads as the greatest extended real. -/
theorem inf_word : Ideal.ofBits .f32 0x7F800000#32 = ⊤ := by
  simp [Ideal.ofBits, Ideal.ieee]

/-- Two flags that are both set, from their conjunction. -/
theorem both_set (a b : BitVec 1) (h : a &&& b = 1#1) : a = 1#1 ∧ b = 1#1 := by
  revert a b; decide

/-- A flag that is set says what it decides. -/
theorem flag_set (p : Prop) [Decidable p] (h : BitVec.ofBool (decide p) = 1#1) : p := by
  by_contra hp
  rw [decide_eq_false hp] at h
  exact absurd h (by decide)

/-- The weights are not negative and not infinite, and the ids are not negative. -/
theorem holds_at (x0 : S32x2048.Idx → EReal) (x1 : S32x2.Idx → EReal) (x2 : S32x2.Idx → BitVec 32) (x3 : S16x2816x2048.Idx → EReal)
    (x4 : S16x22x16.Idx → EReal) (x5 : S16x2048x1408.Idx → EReal) (x6 : S16x16x11.Idx → EReal)
    (h : fn (F := Ideal) x0 x1 x2 x3 x4 x5 x6 = fun _ => 1#1) (i : S32x2.Idx) :
    0 ≤ x1 i ∧ x1 i ≠ ⊤ ∧ (x2 i).toNat < 2 ^ 31 := by
  have hi := congrFun h i
  unfold fn at hi
  pointwise at hi
  obtain ⟨hw, hs⟩ := both_set _ _ hi
  obtain ⟨h0, ht⟩ := both_set _ _ hw
  rw [inf_word] at ht
  have hs' : (0#32).toInt ≤ (x2 i).toInt := flag_set _ hs
  refine ⟨flag_set _ h0, (flag_set _ ht).ne, ?_⟩
  rw [BitVec.toInt_eq_toNat_cond (x2 i)] at hs'
  have hb := (x2 i).isLt
  have hz : (0#32).toInt = 0 := by decide
  split at hs' <;> omega

end Cert.Pre_weights_finite_ids_nonneg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frame
public import proofs.«01_k».proof.Proof.Bits.Frame
public import proofs.«01_k».proof.Proof.Value.State
public import proofs.«01_k».proof.Proof.Value.Reference
public import proofs.«01_k».proof.Proof.Value.Condition
public import Idealize.ShloMosaic.Adequacy
public import Idealize.ShloMosaic.Init

@[expose] public section

noncomputable section

namespace Cert.Proof

open Idealize.ShloMosaic Idealize.SL.Sem Cert.Kernel

/-- The precondition's one broadcast is of a single number. -/
theorem preFacts : Cert.Pre_weights_finite_ids_nonneg.Facts := ⟨by decide⟩

/-- The kernel runs and leaves its arguments as they were. -/
theorem kernel_frame : Cert.quiescent_Kernel := fun m g _ => Cert.Kernel.Hand.frame_run (F := Bits) m g

/-- So does its reading in exact arithmetic. -/
theorem ideal_frame : Cert.quiescent_KernelIdeal := fun m g _ => Cert.KernelIdeal.Hand.frame_run (F := Ideal) m g

/-- So does the reference. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The result both programs reach, as a sum over the experts. -/
def total (m : (ℓ : Loc Cert.KernelIdeal.nD Cert.KernelIdeal.τ Cert.KernelIdeal.sig) → Buf (Elt Ideal) ℓ) (c : Dev Cert.KernelIdeal.nD) :
    Cert.KernelIdeal.S32x2048.Idx → EReal :=
  fun i => ∑ e : Fin 16, Cert.KernelIdeal.Hand.contrib (Cert.KernelIdeal.Hand.arr0 m c) (Cert.KernelIdeal.Hand.arr1 m c) (Cert.KernelIdeal.Hand.arr2 m c)
    (Cert.KernelIdeal.Hand.arr3 m c) (Cert.KernelIdeal.Hand.arr4 m c) (Cert.KernelIdeal.Hand.arr5 m c) (Cert.KernelIdeal.Hand.arr6 m c) e (i 0) (i 1)

/-- For weights that are neither negative nor infinite and ids that aren't negative, the kernel and the reference reach the same
    result in exact arithmetic, and both leave their arguments as they were. -/
theorem agree : @Cert.algebraic_KernelIdeal_ReferenceIdeal_pre_weights_finite_ids_nonneg Cert.KernelIdeal.Gen.facts Cert.ReferenceIdeal.Gen.facts preFacts := by
  intro m g m' g' hpre hargs
  refine ⟨fun c => total m c, ?_, ?_⟩
  · refine (θ_run Cert.KernelIdeal.defs _ _).mono (fun r h c => ⟨?_, Cert.KernelIdeal.Hand.args_kept m _ _ h.1 c⟩)
      (Cert.KernelIdeal.Hand.run_main (F := Ideal) m g _ _ (Cert.KernelIdeal.Hand.keeps m))
    refine funext fun (i : Cert.KernelIdeal.S32x2048.Idx) => ?_
    rw [eq_ix2 i]
    exact Cert.KernelIdeal.Hand.result_sums m h.1 c (i 0) (i 1)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6⟩ := hargs c
    have hc := @Cert.Pre_weights_finite_ids_nonneg.holds_at preFacts _ _ _ _ _ _ _ (hpre c)
    rw [e0, e1, e2, e3, e4, e5, e6]
    refine (Cert.ReferenceIdeal.Read.val_main_v35_eq (F := Ideal) _ _ _ _ _ _ _).trans ?_
    refine funext fun (i : Cert.KernelIdeal.S32x2048.Idx) => ?_
    rw [eq_ix2 i]
    exact Cert.ReferenceIdeal.Hand.result_eq _ _ _ _ _ _ _ (fun j => (hc j).1) (fun j => (hc j).2.1) (fun j => (hc j).2.2) (i 0) (i 1)

/-- All five claims. -/
theorem claim : Cert.Claim := ⟨Cert.Kernel.Gen.facts, Cert.KernelIdeal.Gen.facts, Cert.ReferenceIdeal.Gen.facts, preFacts,
  kernel_frame, ideal_frame, fun m g _ => ideal_frame m g trivial, reference_frame, fun m g _ => reference_frame m g trivial, trivial, agree⟩

end Cert.Proof

end
